-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x32 : Shape := ⟨2, ![512, 32]⟩
abbrev S512x512 : Shape := ⟨2, ![512, 512]⟩
abbrev S4x128x512 : Shape := ⟨3, ![4, 128, 512]⟩
abbrev S512x128 : Shape := ⟨2, ![512, 128]⟩
abbrev S2x512x64 : Shape := ⟨3, ![2, 512, 64]⟩
abbrev S2x64x512 : Shape := ⟨3, ![2, 64, 512]⟩
abbrev S64x128x128 : Shape := ⟨3, ![64, 128, 128]⟩
abbrev S512x64 : Shape := ⟨2, ![512, 64]⟩
abbrev S512 : Shape := ⟨1, ![512]⟩
abbrev S512x1 : Shape := ⟨2, ![512, 1]⟩
abbrev S1x512x64 : Shape := ⟨3, ![1, 512, 64]⟩
abbrev S64x512 : Shape := ⟨2, ![64, 512]⟩
abbrev S1x64x512 : Shape := ⟨3, ![1, 64, 512]⟩
abbrev S1x128x64 : Shape := ⟨3, ![1, 128, 64]⟩
abbrev S128x64 : Shape := ⟨2, ![128, 64]⟩
abbrev S128x1 : Shape := ⟨2, ![128, 1]⟩
abbrev S128x128 : Shape := ⟨2, ![128, 128]⟩
abbrev S1x128x128 : Shape := ⟨3, ![1, 128, 128]⟩
abbrev S1x1x128 : Shape := ⟨3, ![1, 1, 128]⟩
abbrev S1x128 : Shape := ⟨2, ![1, 128]⟩
abbrev S128 : Shape := ⟨1, ![128]⟩
abbrev S128x256 : Shape := ⟨2, ![128, 256]⟩
abbrev S1x256x64 : Shape := ⟨3, ![1, 256, 64]⟩
abbrev S256x64 : Shape := ⟨2, ![256, 64]⟩
abbrev S128x384 : Shape := ⟨2, ![128, 384]⟩
abbrev S1x384x64 : Shape := ⟨3, ![1, 384, 64]⟩
abbrev S384x64 : Shape := ⟨2, ![384, 64]⟩
abbrev S128x512 : Shape := ⟨2, ![128, 512]⟩
abbrev S256x512 : Shape := ⟨2, ![256, 512]⟩
abbrev S256x128 : Shape := ⟨2, ![256, 128]⟩
abbrev S1x128x512 : Shape := ⟨3, ![1, 128, 512]⟩

abbrev nBuf : Space → Nat
  | .hbm => 12
  | .vmem => 20
  | .smem => 0
  | _ => 0

abbrev bufTy : (tb : Table) → Fin (tcTables nBuf tb) → BufTy
  | .hbm, ⟨0, _⟩ => ⟨S1x512x512, .f32⟩
  | .hbm, ⟨1, _⟩ => ⟨S512x32, .f32⟩
  | .hbm, ⟨2, _⟩ => ⟨S512x32, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S4x128x512, .f32⟩
  | .hbm, ⟨9, _⟩ => ⟨S512x512, .f32⟩
  | .hbm, ⟨10, _⟩ => ⟨S512x512, .f32⟩
  | .hbm, ⟨11, _⟩ => ⟨S1x512x512, .f32⟩
  | .local _ .vmem, ⟨0, _⟩ => ⟨S512x512, .f32⟩
  | .local _ .vmem, ⟨1, _⟩ => ⟨S512x32, .f32⟩
  | .local _ .vmem, ⟨2, _⟩ => ⟨S512x32, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S2x512x64, .f32⟩
  | .local _ .vmem, ⟨12, _⟩ => ⟨S2x64x512, .f32⟩
  | .local _ .vmem, ⟨13, _⟩ => ⟨S2x512x64, .f32⟩
  | .local _ .vmem, ⟨14, _⟩ => ⟨S64x128x128, .f32⟩
  | .local _ .vmem, ⟨15, _⟩ => ⟨S256x512, .f32⟩
  | .local _ .vmem, ⟨16, _⟩ => ⟨S256x512, .f32⟩
  | .local _ .vmem, ⟨17, _⟩ => ⟨S4x128x512, .f32⟩
  | .local _ .vmem, ⟨18, _⟩ => ⟨S256x512, .f32⟩
  | .local _ .vmem, ⟨19, _⟩ => ⟨S256x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S1x512x512 : Shape := ⟨3, ![1, 512, 512]⟩
abbrev S512x32 : Shape := ⟨2, ![512, 32]⟩
abbrev S512x512 : Shape := ⟨2, ![512, 512]⟩
abbrev S1x512x8x64 : Shape := ⟨4, ![1, 512, 8, 64]⟩
abbrev S1x512x8x32 : Shape := ⟨4, ![1, 512, 8, 32]⟩
abbrev S1x512x1x32 : Shape := ⟨4, ![1, 512, 1, 32]⟩
abbrev S_ : Shape := ⟨0, ![]⟩
abbrev S1x512x8 : Shape := ⟨3, ![1, 512, 8]⟩
abbrev S1x512x8x1 : Shape := ⟨4, ![1, 512, 8, 1]⟩
abbrev S1x8x512x64 : Shape := ⟨4, ![1, 8, 512, 64]⟩
abbrev S1x8x512x1x64 : Shape := ⟨5, ![1, 8, 512, 1, 64]⟩
abbrev S1x8x1x512x64 : Shape := ⟨5, ![1, 8, 1, 512, 64]⟩
abbrev S1x8x512x512x64 : Shape := ⟨5, ![1, 8, 512, 512, 64]⟩
abbrev S1x8x512x512 : Shape := ⟨4, ![1, 8, 512, 512]⟩
abbrev S1x1x512x512 : Shape := ⟨4, ![1, 1, 512, 512]⟩
abbrev S1x8x512 : Shape := ⟨3, ![1, 8, 512]⟩
abbrev S1x8x512x1 : Shape := ⟨4, ![1, 8, 512, 1]⟩

abbrev nBuf : Space → Nat
  | .hbm => 116
  | .vmem => 0
  | .smem => 0
  | _ => 0

abbrev bufTy : (tb : Table) → Fin (tcTables nBuf tb) → BufTy
  | .hbm, ⟨0, _⟩ => ⟨S1x512x512, .f32⟩
  | .hbm, ⟨1, _⟩ => ⟨S512x32, .f32⟩
  | .hbm, ⟨2, _⟩ => ⟨S512x32, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S1x512x512, .f32⟩
  | .hbm, ⟨8, _⟩ => ⟨S1x512x8x64, .f32⟩
  | .hbm, ⟨9, _⟩ => ⟨S1x512x512, .f32⟩
  | .hbm, ⟨10, _⟩ => ⟨S1x512x8x64, .f32⟩
  | .hbm, ⟨11, _⟩ => ⟨S1x512x512, .f32⟩
  | .hbm, ⟨12, _⟩ => ⟨S1x512x8x64, .f32⟩
  | .hbm, ⟨13, _⟩ => ⟨S1x512x8x32, .f32⟩
  | .hbm, ⟨14, _⟩ => ⟨S1x512x8x32, .f32⟩
  | .hbm, ⟨15, _⟩ => ⟨S1x512x1x32, .f32⟩
  | .hbm, ⟨16, _⟩ => ⟨S1x512x1x32, .f32⟩
  | .hbm, ⟨17, _⟩ => ⟨S1x512x8x32, .f32⟩
  | .hbm, ⟨18, _⟩ => ⟨S1x512x8x32, .f32⟩
  | .hbm, ⟨19, _⟩ => ⟨S1x512x8x32, .f32⟩
  | .hbm, ⟨20, _⟩ => ⟨S1x512x8x32, .f32⟩
  | .hbm, ⟨21, _⟩ => ⟨S1x512x8x32, .f32⟩
  | .hbm, ⟨22, _⟩ => ⟨S1x512x8x32, .f32⟩
  | .hbm, ⟨23, _⟩ => ⟨S1x512x8x32, .f32⟩
  | .hbm, ⟨24, _⟩ => ⟨S1x512x8x32, .f32⟩
  | .hbm, ⟨25, _⟩ => ⟨S1x512x8x32, .f32⟩
  | .hbm, ⟨26, _⟩ => ⟨S1x512x8x32, .f32⟩
  | .hbm, ⟨27, _⟩ => ⟨S1x512x8x32, .f32⟩
  | .hbm, ⟨28, _⟩ => ⟨S1x512x8x64, .f32⟩
  | .hbm, ⟨29, _⟩ => ⟨S1x512x8x64, .f32⟩
  | .hbm, ⟨30, _⟩ => ⟨S_, .f32⟩
  | .hbm, ⟨31, _⟩ => ⟨S1x512x8, .f32⟩
  | .hbm, ⟨32, _⟩ => ⟨S1x512x8x1, .f32⟩
  | .hbm, ⟨33, _⟩ => ⟨S_, .f32⟩
  | .hbm, ⟨34, _⟩ => ⟨S1x512x8x1, .f32⟩
  | .hbm, ⟨35, _⟩ => ⟨S1x512x8x1, .f32⟩
  | .hbm, ⟨36, _⟩ => ⟨S_, .f32⟩
  | .hbm, ⟨37, _⟩ => ⟨S1x512x8x1, .f32⟩
  | .hbm, ⟨38, _⟩ => ⟨S1x512x8x1, .f32⟩
  | .hbm, ⟨39, _⟩ => ⟨S1x512x8x1, .f32⟩
  | .hbm, ⟨40, _⟩ => ⟨S1x512x8x64, .f32⟩
  | .hbm, ⟨41, _⟩ => ⟨S1x512x8x64, .f32⟩
  | .hbm, ⟨42, _⟩ => ⟨S1x512x8x32, .f32⟩
  | .hbm, ⟨43, _⟩ => ⟨S1x512x8x32, .f32⟩
  | .hbm, ⟨44, _⟩ => ⟨S1x512x1x32, .f32⟩
  | .hbm, ⟨45, _⟩ => ⟨S1x512x1x32, .f32⟩
  | .hbm, ⟨46, _⟩ => ⟨S1x512x8x32, .f32⟩
  | .hbm, ⟨47, _⟩ => ⟨S1x512x8x32, .f32⟩
  | .hbm, ⟨48, _⟩ => ⟨S1x512x8x32, .f32⟩
  | .hbm, ⟨49, _⟩ => ⟨S1x512x8x32, .f32⟩
  | .hbm, ⟨50, _⟩ => ⟨S1x512x8x32, .f32⟩
  | .hbm, ⟨51, _⟩ => ⟨S1x512x8x32, .f32⟩
  | .hbm, ⟨52, _⟩ => ⟨S1x512x8x32, .f32⟩
  | .hbm, ⟨53, _⟩ => ⟨S1x512x8x32, .f32⟩
  | .hbm, ⟨54, _⟩ => ⟨S1x512x8x32, .f32⟩
  | .hbm, ⟨55, _⟩ => ⟨S1x512x8x32, .f32⟩
  | .hbm, ⟨56, _⟩ => ⟨S1x512x8x32, .f32⟩
  | .hbm, ⟨57, _⟩ => ⟨S1x512x8x64, .f32⟩
  | .hbm, ⟨58, _⟩ => ⟨S1x512x8x64, .f32⟩
  | .hbm, ⟨59, _⟩ => ⟨S_, .f32⟩
  | .hbm, ⟨60, _⟩ => ⟨S1x512x8, .f32⟩
  | .hbm, ⟨61, _⟩ => ⟨S1x512x8x1, .f32⟩
  | .hbm, ⟨62, _⟩ => ⟨S_, .f32⟩
  | .hbm, ⟨63, _⟩ => ⟨S1x512x8x1, .f32⟩
  | .hbm, ⟨64, _⟩ => ⟨S1x512x8x1, .f32⟩
  | .hbm, ⟨65, _⟩ => ⟨S_, .f32⟩
  | .hbm, ⟨66, _⟩ => ⟨S1x512x8x1, .f32⟩
  | .hbm, ⟨67, _⟩ => ⟨S1x512x8x1, .f32⟩
  | .hbm, ⟨68, _⟩ => ⟨S1x512x8x1, .f32⟩
  | .hbm, ⟨69, _⟩ => ⟨S1x512x8x64, .f32⟩
  | .hbm, ⟨70, _⟩ => ⟨S1x512x8x64, .f32⟩
  | .hbm, ⟨71, _⟩ => ⟨S1x8x512x64, .f32⟩
  | .hbm, ⟨72, _⟩ => ⟨S1x8x512x64, .f32⟩
  | .hbm, ⟨73, _⟩ => ⟨S1x8x512x64, .f32⟩
  | .hbm, ⟨74, _⟩ => ⟨S1x8x512x1x64, .f32⟩
  | .hbm, ⟨75, _⟩ => ⟨S1x8x1x512x64, .f32⟩
  | .hbm, ⟨76, _⟩ => ⟨S1x8x512x512x64, .f32⟩
  | .hbm, ⟨77, _⟩ => ⟨S1x8x512x512x64, .f32⟩
  | .hbm, ⟨78, _⟩ => ⟨S1x8x512x512x64, .f32⟩
  | .hbm, ⟨79, _⟩ => ⟨S_, .f32⟩
  | .hbm, ⟨80, _⟩ => ⟨S1x8x512x512, .f32⟩
  | .hbm, ⟨81, _⟩ => ⟨S_, .i1⟩
  | .hbm, ⟨82, _⟩ => ⟨S512x512, .i1⟩
  | .hbm, ⟨83, _⟩ => ⟨S512x512, .i32⟩
  | .hbm, ⟨84, _⟩ => ⟨S_, .i32⟩
  | .hbm, ⟨85, _⟩ => ⟨S512x512, .i32⟩
  | .hbm, ⟨86, _⟩ => ⟨S512x512, .i32⟩
  | .hbm, ⟨87, _⟩ => ⟨S512x512, .i32⟩
  | .hbm, ⟨88, _⟩ => ⟨S512x512, .i1⟩
  | .hbm, ⟨89, _⟩ => ⟨S_, .i1⟩
  | .hbm, ⟨90, _⟩ => ⟨S512x512, .i1⟩
  | .hbm, ⟨91, _⟩ => ⟨S512x512, .i1⟩
  | .hbm, ⟨92, _⟩ => ⟨S1x1x512x512, .i1⟩
  | .hbm, ⟨93, _⟩ => ⟨S_, .f32⟩
  | .hbm, ⟨94, _⟩ => ⟨S_, .f32⟩
  | .hbm, ⟨95, _⟩ => ⟨S1x8x512x512, .i1⟩
  | .hbm, ⟨96, _⟩ => ⟨S1x8x512x512, .f32⟩
  | .hbm, ⟨97, _⟩ => ⟨S1x8x512x512, .f32⟩
  | .hbm, ⟨98, _⟩ => ⟨S_, .f32⟩
  | .hbm, ⟨99, _⟩ => ⟨S1x8x512, .f32⟩
  | .hbm, ⟨100, _⟩ => ⟨S_, .f32⟩
  | .hbm, ⟨101, _⟩ => ⟨S1x8x512, .f32⟩
  | .hbm, ⟨102, _⟩ => ⟨S1x8x512, .f32⟩
  | .hbm, ⟨103, _⟩ => ⟨S1x8x512x1, .f32⟩
  | .hbm, ⟨104, _⟩ => ⟨S1x8x512x512, .f32⟩
  | .hbm, ⟨105, _⟩ => ⟨S1x8x512x512, .f32⟩
  | .hbm, ⟨106, _⟩ => ⟨S1x8x512x512, .f32⟩
  | .hbm, ⟨107, _⟩ => ⟨S_, .f32⟩
  | .hbm, ⟨108, _⟩ => ⟨S1x8x512, .f32⟩
  | .hbm, ⟨109, _⟩ => ⟨S1x8x512x1, .f32⟩
  | .hbm, ⟨110, _⟩ => ⟨S1x8x512x512, .f32⟩
  | .hbm, ⟨111, _⟩ => ⟨S1x8x512x512, .f32⟩
  | .hbm, ⟨112, _⟩ => ⟨S1x8x512x64, .f32⟩
  | .hbm, ⟨113, _⟩ => ⟨S1x512x8x64, .f32⟩
  | .hbm, ⟨114, _⟩ => ⟨S1x512x512, .f32⟩
  | .hbm, ⟨115, _⟩ => ⟨S1x512x512, .f32⟩
  | _, _ => ⟨S1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_cst_0 : Ref sig .tc := ⟨.hbm, 33, rfl⟩
abbrev main_v25 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_2 : Ref sig .tc := ⟨.hbm, 59, rfl⟩
abbrev main_v49 : Ref sig .tc := ⟨.hbm, 60, rfl⟩
abbrev main_v50 : Ref sig .tc := ⟨.hbm, 61, rfl⟩
abbrev main_cst_3 : Ref sig .tc := ⟨.hbm, 62, rfl⟩
abbrev main_v51 : Ref sig .tc := ⟨.hbm, 63, rfl⟩
abbrev main_v52 : Ref sig .tc := ⟨.hbm, 64, rfl⟩
abbrev main_cst_4 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_c : Ref sig .tc := ⟨.hbm, 81, rfl⟩
abbrev main_v67 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_c_0 : Ref sig .tc := ⟨.hbm, 89, rfl⟩
abbrev main_call0_v5 : Ref sig .tc := ⟨.hbm, 90, rfl⟩
abbrev main_v68 : Ref sig .tc := ⟨.hbm, 91, rfl⟩
abbrev main_v69 : Ref sig .tc := ⟨.hbm, 92, rfl⟩
abbrev main_cst_6 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v70 : Ref sig .tc := ⟨.hbm, 97, rfl⟩
abbrev main_cst_7 : Ref sig .tc := ⟨.hbm, 98, rfl⟩
abbrev main_v71 : Ref sig .tc := ⟨.hbm, 99, rfl⟩
abbrev main_cst_8 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_9 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]
-- ==== Proof.Blocks.lean ====
/- The attention kernel's stored pieces, said once for every head of a pair, every group of 128 queries and every group of 128
   keys: the three scratch slabs a head fills, the 64 broadcast columns a group of queries fills, the running maximum over the
   64 columns that makes a group of scores, and the masked softmax and product with the values that make an output tile. The
   last theorem says that the list of the output block's eight pieces, as the body's run leaves it, is made of these. -/
module

public import proofs.«01_k».proof.Proof.Gen.KernelIdeal.Frame

@[expose] public section

noncomputable section

namespace Cert.KernelIdeal.Gen

open Cert.KernelIdeal Idealize.ShloMosaic Idealize.SL.Sem

variable {F : FTy → Type} [FloatOps F] [Named F]

/-- A projection's 64 columns turned by the angles, each row divided by the root of its mean square. -/
def rotNorm (p : FVec F S512x64 .f32) (c s : FVec F S512x32 .f32) : FVec F S512x64 .f32 :=
  have lo : FVec F S512x32 .f32 := extractStridedSlice S512x32 ![0, 0] p slices_S512x64_o0_0_S512x32
  have hi : FVec F S512x32 .f32 := extractStridedSlice S512x32 ![0, 32] p slices_S512x64_o0_32_S512x32
  have r : FVec F S512x64 .f32 := concatenate S512x64 1
    [⟨S512x32, addf (mulf lo c) (mulf hi s)⟩, ⟨S512x32, subf (mulf hi c) (mulf lo s)⟩] concatenates_S512x32_S512x32_S512x64_d1
  have ms : FVec F S512 .f32 := multiReduction .add [1] S512 (mulf r r) 0x00000000#32 reduces_S512x64_S512 (.inl rfl) rfl
  have mean : FVec F S512x1 .f32 := divf (shapeCast S512x1 ms shapeCasts_S512_S512x1) (broadcast S512x1 (Scalar.ofBits .f32 0x42800000#32))
  mulf r (broadcastTo S512x64 (rsqrt (addf mean (broadcast S512x1 (Scalar.ofBits .f32 0x358637BD#32)))) broadcasts_S512x1_S512x64)

/-- The product of the input with 64 columns of a weight. -/
def cols (x : FVec F S512x512 .f32) (w : FVec F S512x64 .f32) : FVec F S512x64 .f32 :=
  matmul dot_S512x512_S512x64_S512x64_1_0_0_1_n_n none (shapeCast S512x512 x shapeCasts_S512x512_S512x512) w (constant S512x64 .f32 0x00000000#32)

def qSlab (x : FVec F S512x512 .f32) (c s : FVec F S512x32 .f32) (w : FVec F S512x64 .f32) : FVec F S1x512x64 .f32 :=
  shapeCast S1x512x64 (rotNorm (cols x w) c s) shapeCasts_S512x64_S1x512x64

def kSlab (x : FVec F S512x512 .f32) (c s : FVec F S512x32 .f32) (w : FVec F S512x64 .f32) : FVec F S1x64x512 .f32 :=
  shapeCast S1x64x512 (transpose S64x512 [1, 0] (rotNorm (cols x w) c s) transposes_S512x64_p1_0_S64x512) shapeCasts_S64x512_S1x64x512

def vSlab (x : FVec F S512x512 .f32) (w : FVec F S512x64 .f32) : FVec F S1x512x64 .f32 :=
  shapeCast S1x512x64 (cols x w) shapeCasts_S512x64_S1x512x64

theorem slabIn (s : Fin 2) : ∀ a, (![s.1, 0, 0] : Fin 3 → ℕ) a + S1x512x64.size a ≤ S2x512x64.size a := by
  revert s; decide
theorem slabTIn (s : Fin 2) : ∀ a, (![s.1, 0, 0] : Fin 3 → ℕ) a + S1x64x512.size a ≤ S2x64x512.size a := by
  revert s; decide
theorem slotIn (d : Fin 64) : ∀ a, (![d.1, 0, 0] : Fin 3 → ℕ) a + S1x128x128.size a ≤ S64x128x128.size a := by
  revert d; decide +kernel
theorem colIn (s : Fin 2) : ∀ a, (![0, s.1 * 64] : Fin 2 → ℕ) a + S512x64.size a ≤ S512x128.size a := by
  revert s; decide
theorem tileIn (s : Fin 2) (b : Fin 4) : ∀ a, (![b.1 * 128, s.1 * 64] : Fin 2 → ℕ) a + S128x64.size a ≤ S512x128.size a := by
  revert s b; decide
theorem rowIn (s : Fin 2) (d : Fin 64) (b : Fin 4) : ∀ a, (![s.1, d.1, b.1 * 128] : Fin 3 → ℕ) a + S1x1x128.size a ≤ S2x64x512.size a := by
  revert s d b; decide +kernel
theorem queryIn (s : Fin 2) (b : Fin 4) : ∀ a, (![s.1, b.1 * 128, 0] : Fin 3 → ℕ) a + S1x128x64.size a ≤ S2x512x64.size a := by
  revert s b; decide
theorem columnOf (d : Fin 64) : S128x64.Slices ![0, d.1] S128x1 := by
  revert d; decide +kernel

/-- A slab of the queries' or the values' scratch. -/
abbrev slabRect (s : Fin 2) : Rect S2x512x64 := Rect.unit ![s.1, 0, 0] S1x512x64.size (slabIn s)
/-- A slab of the keys' scratch. -/
abbrev slabTRect (s : Fin 2) : Rect S2x64x512 := Rect.unit ![s.1, 0, 0] S1x64x512.size (slabTIn s)
/-- The place of one broadcast column. -/
abbrev slotRect (d : Fin 64) : Rect S64x128x128 := Rect.unit ![d.1, 0, 0] S1x128x128.size (slotIn d)
/-- The columns of one head of a pair, in a block of a weight. -/
abbrev colRect (s : Fin 2) : Rect S512x128 := Rect.unit ![0, s.1 * 64] S512x64.size (colIn s)
/-- The output tile of a head and a group of queries. -/
abbrev tileRect (s : Fin 2) (b : Fin 4) : Rect S512x128 := Rect.unit ![b.1 * 128, s.1 * 64] S128x64.size (tileIn s b)
/-- One row of a head's transposed keys, a group of 128 of them. -/
abbrev rowRect (s : Fin 2) (d : Fin 64) (b : Fin 4) : Rect S2x64x512 := Rect.unit ![s.1, d.1, b.1 * 128] S1x1x128.size (rowIn s d b)
/-- A group of 128 of a head's queries. -/
abbrev queryRect (s : Fin 2) (b : Fin 4) : Rect S2x512x64 := Rect.unit ![s.1, b.1 * 128, 0] S1x128x64.size (queryIn s b)

/-- The two slabs, the second head's stored last. -/
def slabs (a : Fin 2 → FVec F S1x512x64 .f32) : List (View.Piece (Elt F) S2x512x64 .f32) :=
  [⟨slabRect 1, a 1⟩, ⟨slabRect 0, a 0⟩]
def slabsT (a : Fin 2 → FVec F S1x64x512 .f32) : List (View.Piece (Elt F) S2x64x512 .f32) :=
  [⟨slabTRect 1, a 1⟩, ⟨slabTRect 0, a 0⟩]

/-- Column `d` of a group of queries, repeated along the lanes. -/
def slot (qc : FVec F S128x64 .f32) (d : Fin 64) : FVec F S1x128x128 .f32 :=
  shapeCast S1x128x128 (broadcastTo S128x128 (shapeCast S128x1 (extractStridedSlice S128x1 ![0, d.1] qc (columnOf d)) shapeCasts_S128x1_S128x1)
    broadcasts_S128x1_S128x128) shapeCasts_S128x128_S1x128x128

/-- The first `n` columns stored one after the other over what is there. -/
def slots (qc : FVec F S128x64 .f32) (base : List (View.Piece (Elt F) S64x128x128 .f32)) :
    (n : ℕ) → n ≤ 64 → List (View.Piece (Elt F) S64x128x128 .f32)
  | 0, _ => base
  | n + 1, h => ⟨slotRect ⟨n, h⟩, slot qc ⟨n, h⟩⟩ :: slots qc base n (Nat.le_of_succ_le h)

variable (arg8 : Memref sig .tc .vmem S2x512x64 .f32) (arg9 : Memref sig .tc .vmem S2x64x512 .f32)
  (arg10 : Memref sig .tc .vmem S2x512x64 .f32) (arg11 : Memref sig .tc .vmem S64x128x128 .f32)

/-- A group of queries, loaded. -/
def queries (Q : List (View.Piece (Elt F) S2x512x64 .f32)) (s : Fin 2) (b : Fin 4) : FVec F S128x64 .f32 :=
  shapeCast S128x64 (arg8.view.readCov Q (queryRect s b).toLoadRect) shapeCasts_S1x128x64_S128x64

/-- One column's contribution to a group of scores. -/
def term (B : List (View.Piece (Elt F) S64x128x128 .f32)) (K : List (View.Piece (Elt F) S2x64x512 .f32)) (s : Fin 2) (b : Fin 4)
    (d : Fin 64) : FVec F S128x128 .f32 :=
  addf (shapeCast S128x128 (arg11.view.readCov B (slotRect d).toLoadRect) shapeCasts_S1x128x128_S128x128)
    (broadcastTo S128x128 (shapeCast S1x128 (arg9.view.readCov K (rowRect s d b).toLoadRect) shapeCasts_S1x1x128_S1x128) broadcasts_S1x128_S128x128)

/-- The maximum of the contributions of the columns up to `n`. -/
def chain (B : List (View.Piece (Elt F) S64x128x128 .f32)) (K : List (View.Piece (Elt F) S2x64x512 .f32)) (s : Fin 2) (b : Fin 4) :
    (n : ℕ) → n < 64 → FVec F S128x128 .f32
  | 0, h => term arg9 arg11 B K s b ⟨0, h⟩
  | n + 1, h => maximumf (chain B K s b n (Nat.lt_of_succ_lt h)) (term arg9 arg11 B K s b ⟨n + 1, h⟩)

/-- A group of scores. -/
def scores (B : List (View.Piece (Elt F) S64x128x128 .f32)) (K : List (View.Piece (Elt F) S2x64x512 .f32)) (s : Fin 2) (b : Fin 4) :
    FVec F S128x128 .f32 :=
  chain arg9 arg11 B K s b 63 (by norm_num)

/-- The tile of the first group of queries: the scores of 128 keys, masked, and what they make of the values. -/
def tile1 (sc : FVec F S128x128 .f32) (v : FVec F S1x128x64 .f32) : FVec F S128x64 .f32 :=
  have row : IVec S128x128 32 := addi (iota .tc S128x128 32 [0] iota_S128x128_d0_w32) (broadcast S128x128 0#32)
  have ms : FVec F S128x128 .f32 := select (cmpi .sge row (iota .tc S128x128 32 [1] iota_S128x128_d1_w32)) sc (broadcast S128x128 (Named.named κ "mask" 0xF149F2CA#32))
  have top : FVec F S128 .f32 := multiReduction .maximumf [1] S128 ms 0xFF800000#32 reduces_S128x128_S128 (.inl rfl) rfl
  have e : FVec F S128x128 .f32 := exp (subf ms (broadcastTo S128x128 (shapeCast S128x1 top shapeCasts_S128_S128x1) broadcasts_S128x1_S128x128))
  have tot : FVec F S128 .f32 := multiReduction .add [1] S128 e 0x00000000#32 reduces_S128x128_S128 (.inl rfl) rfl
  matmul dot_S128x128_S128x64_S128x64_1_0_0_1_n_n none (divf e (broadcastTo S128x128 (shapeCast S128x1 tot shapeCasts_S128_S128x1) broadcasts_S128x1_S128x128))
    (shapeCast S128x64 v shapeCasts_S1x128x64_S128x64) (constant S128x64 .f32 0x00000000#32)

/-- The tile of the second group of queries: the scores of 256 keys, masked, and what they make of the values. -/
def tile2 (sc : FVec F S128x256 .f32) (v : FVec F S1x256x64 .f32) : FVec F S128x64 .f32 :=
  have row : IVec S128x256 32 := addi (iota .tc S128x256 32 [0] iota_S128x256_d0_w32) (broadcast S128x256 128#32)
  have ms : FVec F S128x256 .f32 := select (cmpi .sge row (iota .tc S128x256 32 [1] iota_S128x256_d1_w32)) sc (broadcast S128x256 (Named.named κ "mask" 0xF149F2CA#32))
  have top : FVec F S128 .f32 := multiReduction .maximumf [1] S128 ms 0xFF800000#32 reduces_S128x256_S128 (.inl rfl) rfl
  have e : FVec F S128x256 .f32 := exp (subf ms (broadcastTo S128x256 (shapeCast S128x1 top shapeCasts_S128_S128x1) broadcasts_S128x1_S128x256))
  have tot : FVec F S128 .f32 := multiReduction .add [1] S128 e 0x00000000#32 reduces_S128x256_S128 (.inl rfl) rfl
  matmul dot_S128x256_S256x64_S128x64_1_0_0_1_n_n none (divf e (broadcastTo S128x256 (shapeCast S128x1 tot shapeCasts_S128_S128x1) broadcasts_S128x1_S128x256))
    (shapeCast S256x64 v shapeCasts_S1x256x64_S256x64) (constant S128x64 .f32 0x00000000#32)

/-- The tile of the third group of queries: the scores of 384 keys, masked, and what they make of the values. -/
def tile3 (sc : FVec F S128x384 .f32) (v : FVec F S1x384x64 .f32) : FVec F S128x64 .f32 :=
  have row : IVec S128x384 32 := addi (iota .tc S128x384 32 [0] iota_S128x384_d0_w32) (broadcast S128x384 256#32)
  have ms : FVec F S128x384 .f32 := select (cmpi .sge row (iota .tc S128x384 32 [1] iota_S128x384_d1_w32)) sc (broadcast S128x384 (Named.named κ "mask" 0xF149F2CA#32))
  have top : FVec F S128 .f32 := multiReduction .maximumf [1] S128 ms 0xFF800000#32 reduces_S128x384_S128 (.inl rfl) rfl
  have e : FVec F S128x384 .f32 := exp (subf ms (broadcastTo S128x384 (shapeCast S128x1 top shapeCasts_S128_S128x1) broadcasts_S128x1_S128x384))
  have tot : FVec F S128 .f32 := multiReduction .add [1] S128 e 0x00000000#32 reduces_S128x384_S128 (.inl rfl) rfl
  matmul dot_S128x384_S384x64_S128x64_1_0_0_1_n_n none (divf e (broadcastTo S128x384 (shapeCast S128x1 tot shapeCasts_S128_S128x1) broadcasts_S128x1_S128x384))
    (shapeCast S384x64 v shapeCasts_S1x384x64_S384x64) (constant S128x64 .f32 0x00000000#32)

/-- The tile of the last group of queries: the scores of 512 keys, masked, and what they make of the values. -/
def tile4 (sc : FVec F S128x512 .f32) (v : FVec F S1x512x64 .f32) : FVec F S128x64 .f32 :=
  have row : IVec S128x512 32 := addi (iota .tc S128x512 32 [0] iota_S128x512_d0_w32) (broadcast S128x512 384#32)
  have ms : FVec F S128x512 .f32 := select (cmpi .sge row (iota .tc S128x512 32 [1] iota_S128x512_d1_w32)) sc (broadcast S128x512 (Named.named κ "mask" 0xF149F2CA#32))
  have top : FVec F S128 .f32 := multiReduction .maximumf [1] S128 ms 0xFF800000#32 reduces_S128x512_S128 (.inl rfl) rfl
  have e : FVec F S128x512 .f32 := exp (subf ms (broadcastTo S128x512 (shapeCast S128x1 top shapeCasts_S128_S128x1) broadcasts_S128x1_S128x512))
  have tot : FVec F S128 .f32 := multiReduction .add [1] S128 e 0x00000000#32 reduces_S128x512_S128 (.inl rfl) rfl
  matmul dot_S128x512_S512x64_S128x64_1_0_0_1_n_n none (divf e (broadcastTo S128x512 (shapeCast S128x1 tot shapeCasts_S128_S128x1) broadcasts_S128x1_S128x512))
    (shapeCast S512x64 v shapeCasts_S1x512x64_S512x64) (constant S128x64 .f32 0x00000000#32)

theorem valueIn1 (s : Fin 2) : ∀ a, (![s.1, 0, 0] : Fin 3 → ℕ) a + S1x128x64.size a ≤ S2x512x64.size a := by
  revert s; decide
theorem valueIn2 (s : Fin 2) : ∀ a, (![s.1, 0, 0] : Fin 3 → ℕ) a + S1x256x64.size a ≤ S2x512x64.size a := by
  revert s; decide
theorem valueIn3 (s : Fin 2) : ∀ a, (![s.1, 0, 0] : Fin 3 → ℕ) a + S1x384x64.size a ≤ S2x512x64.size a := by
  revert s; decide
theorem valueIn4 (s : Fin 2) : ∀ a, (![s.1, 0, 0] : Fin 3 → ℕ) a + S1x512x64.size a ≤ S2x512x64.size a := by
  revert s; decide

/-- The first tile of head `s`. -/
def piece1 (B : List (View.Piece (Elt F) S64x128x128 .f32)) (K : List (View.Piece (Elt F) S2x64x512 .f32))
    (V : List (View.Piece (Elt F) S2x512x64 .f32)) (s : Fin 2) : FVec F S128x64 .f32 :=
  tile1 (scores arg9 arg11 B K s 0)
    (arg10.view.readCov V (Rect.unit (s := S2x512x64) ![s.1, 0, 0] S1x128x64.size (valueIn1 s)).toLoadRect)

/-- The second tile of head `s`. -/
def piece2 (B : List (View.Piece (Elt F) S64x128x128 .f32)) (K : List (View.Piece (Elt F) S2x64x512 .f32))
    (V : List (View.Piece (Elt F) S2x512x64 .f32)) (s : Fin 2) : FVec F S128x64 .f32 :=
  tile2 (concatenate S128x256 1 [⟨S128x128, scores arg9 arg11 B K s 0⟩, ⟨S128x128, scores arg9 arg11 B K s 1⟩]
    concatenates_S128x128_S128x128_S128x256_d1)
    (arg10.view.readCov V (Rect.unit (s := S2x512x64) ![s.1, 0, 0] S1x256x64.size (valueIn2 s)).toLoadRect)

/-- The third tile of head `s`. -/
def piece3 (B : List (View.Piece (Elt F) S64x128x128 .f32)) (K : List (View.Piece (Elt F) S2x64x512 .f32))
    (V : List (View.Piece (Elt F) S2x512x64 .f32)) (s : Fin 2) : FVec F S128x64 .f32 :=
  tile3 (concatenate S128x384 1 [⟨S128x128, scores arg9 arg11 B K s 0⟩, ⟨S128x128, scores arg9 arg11 B K s 1⟩, ⟨S128x128, scores arg9 arg11 B K s 2⟩]
    concatenates_S128x128_S128x128_S128x128_S128x384_d1)
    (arg10.view.readCov V (Rect.unit (s := S2x512x64) ![s.1, 0, 0] S1x384x64.size (valueIn3 s)).toLoadRect)

/-- The last tile of head `s`. -/
def piece4 (B : List (View.Piece (Elt F) S64x128x128 .f32)) (K : List (View.Piece (Elt F) S2x64x512 .f32))
    (V : List (View.Piece (Elt F) S2x512x64 .f32)) (s : Fin 2) : FVec F S128x64 .f32 :=
  tile4 (concatenate S128x512 1 [⟨S128x128, scores arg9 arg11 B K s 0⟩, ⟨S128x128, scores arg9 arg11 B K s 1⟩, ⟨S128x128, scores arg9 arg11 B K s 2⟩, ⟨S128x128, scores arg9 arg11 B K s 3⟩]
    concatenates_S128x128_S128x128_S128x128_S128x128_S128x512_d1)
    (arg10.view.readCov V (Rect.unit (s := S2x512x64) ![s.1, 0, 0] S1x512x64.size (valueIn4 s)).toLoadRect)

/-- The output block's pieces, the last stored first, from what the columns' scratch holds at each. -/
def outPieces (B : Fin 2 → Fin 4 → List (View.Piece (Elt F) S64x128x128 .f32)) (K : List (View.Piece (Elt F) S2x64x512 .f32))
    (V : List (View.Piece (Elt F) S2x512x64 .f32)) : List (View.Piece (Elt F) S512x128 .f32) :=
  [⟨tileRect 1 3, piece4 arg9 arg10 arg11 (B 1 3) K V 1⟩,
   ⟨tileRect 1 2, piece3 arg9 arg10 arg11 (B 1 2) K V 1⟩,
   ⟨tileRect 1 1, piece2 arg9 arg10 arg11 (B 1 1) K V 1⟩,
   ⟨tileRect 1 0, piece1 arg9 arg10 arg11 (B 1 0) K V 1⟩,
   ⟨tileRect 0 3, piece4 arg9 arg10 arg11 (B 0 3) K V 0⟩,
   ⟨tileRect 0 2, piece3 arg9 arg10 arg11 (B 0 2) K V 0⟩,
   ⟨tileRect 0 1, piece2 arg9 arg10 arg11 (B 0 1) K V 0⟩,
   ⟨tileRect 0 0, piece1 arg9 arg10 arg11 (B 0 0) K V 0⟩]

variable (c : Dev nD) (i : grid0.Coords) (arg1 : Memref sig .tc .vmem S512x512 .f32) (harg1 : arg1.IsWhole)
  (arg2 : Memref sig .tc .vmem S512x32 .f32) (harg2 : arg2.IsWhole) (arg3 : Memref sig .tc .vmem S512x32 .f32) (harg3 : arg3.IsWhole)
  (arg4 : Memref sig .tc .vmem S512x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .f32) (harg7 : arg7.IsWhole)
  (harg8 : arg8.IsWhole) (harg9 : arg9.IsWhole) (harg10 : arg10.IsWhole) (harg11 : arg11.IsWhole)
  (x0 : Vec F S512x512 .f32) (x1 : Vec F S512x32 .f32) (x2 : Vec F S512x32 .f32) (x3 : Vec F S512x128 .f32) (x4 : Vec F S512x128 .f32)
  (x5 : Vec F S512x128 .f32)

/-- A load of the whole input block. -/
abbrev loadX : FVec F S512x512 .f32 :=
  View.readAt (Elt F) arg1.view (Rect.unit ![0, 0] S512x512.size inb_S512x512_S512x512_0_0).toLoadRect (harg1.unread x0)
/-- A load of a whole angle table. -/
abbrev loadA (arg : Memref sig .tc .vmem S512x32 .f32) (harg : arg.IsWhole) (x : Vec F S512x32 .f32) : FVec F S512x32 .f32 :=
  View.readAt (Elt F) arg.view (Rect.unit ![0, 0] S512x32.size inb_S512x32_S512x32_0_0).toLoadRect (harg.unread x)
/-- A load of one head's columns of a weight block. -/
abbrev loadW (arg : Memref sig .tc .vmem S512x128 .f32) (harg : arg.IsWhole) (x : Vec F S512x128 .f32) (s : Fin 2) : FVec F S512x64 .f32 :=
  View.readAt (Elt F) arg.view (colRect s).toLoadRect (harg.unread x)

open kernelRun0_A

/-- What the columns' scratch holds when a head scores a group of queries, as the run names it. -/
def held : Fin 2 → Fin 4 → List (View.Piece (Elt F) S64x128x128 .f32) :=
  ![![sl.HS3_64 c arg1 harg1 arg2 harg2 arg3 harg3 arg4 harg4 arg8 x0 x1 x2 x3,
      sl.HS3_128 c arg1 harg1 arg2 harg2 arg3 harg3 arg4 harg4 arg8 x0 x1 x2 x3,
      sl.HS3_192 c arg1 harg1 arg2 harg2 arg3 harg3 arg4 harg4 arg8 x0 x1 x2 x3,
      sl.HS3_256 c arg1 harg1 arg2 harg2 arg3 harg3 arg4 harg4 arg8 x0 x1 x2 x3],
    ![sl.HS3_320 c arg1 harg1 arg2 harg2 arg3 harg3 arg4 harg4 arg8 x0 x1 x2 x3,
      sl.HS3_384 c arg1 harg1 arg2 harg2 arg3 harg3 arg4 harg4 arg8 x0 x1 x2 x3,
      sl.HS3_448 c arg1 harg1 arg2 harg2 arg3 harg3 arg4 harg4 arg8 x0 x1 x2 x3,
      sl.HS3_512 c arg1 harg1 arg2 harg2 arg3 harg3 arg4 harg4 arg8 x0 x1 x2 x3]]

/-- What it held before that group's columns were stored. -/
def before : Fin 2 → Fin 4 → List (View.Piece (Elt F) S64x128x128 .f32) :=
  ![![[],
      sl.HS3_64 c arg1 harg1 arg2 harg2 arg3 harg3 arg4 harg4 arg8 x0 x1 x2 x3,
      sl.HS3_128 c arg1 harg1 arg2 harg2 arg3 harg3 arg4 harg4 arg8 x0 x1 x2 x3,
      sl.HS3_192 c arg1 harg1 arg2 harg2 arg3 harg3 arg4 harg4 arg8 x0 x1 x2 x3],
    ![sl.HS3_256 c arg1 harg1 arg2 harg2 arg3 harg3 arg4 harg4 arg8 x0 x1 x2 x3,
      sl.HS3_320 c arg1 harg1 arg2 harg2 arg3 harg3 arg4 harg4 arg8 x0 x1 x2 x3,
      sl.HS3_384 c arg1 harg1 arg2 harg2 arg3 harg3 arg4 harg4 arg8 x0 x1 x2 x3,
      sl.HS3_448 c arg1 harg1 arg2 harg2 arg3 harg3 arg4 harg4 arg8 x0 x1 x2 x3]]

set_option maxRecDepth 65536 in
theorem held_eq (s : Fin 2) (b : Fin 4) : held arg8 c arg1 harg1 arg2 harg2 arg3 harg3 arg4 harg4 x0 x1 x2 x3 s b
    = slots (queries arg8 (sl.HS0_2 c arg1 harg1 arg2 harg2 arg3 harg3 arg4 harg4 x0 x1 x2 x3) s b) (before arg8 c arg1 harg1 arg2 harg2 arg3 harg3 arg4 harg4 x0 x1 x2 x3 s b) 64 le_rfl := by
  fin_cases s <;> fin_cases b <;> exact (rfl)

set_option maxRecDepth 65536 in
theorem run_list :
    (kernelRun0_A (F := F) c i arg1 harg1 arg2 harg2 arg3 harg3 arg4 harg4 arg5 harg5 arg6 harg6 arg7 harg7 arg8 harg8 arg9 harg9
      arg10 harg10 arg11 harg11 x0 x1 x2 x3 x4 x5).1
      = outPieces arg9 arg10 arg11 (held arg8 c arg1 harg1 arg2 harg2 arg3 harg3 arg4 harg4 x0 x1 x2 x3)
        (sl.HS1_2 c arg1 harg1 arg2 harg2 arg3 harg3 arg5 harg5 x0 x1 x2 x4)
        (sl.HS2_2 c arg1 harg1 arg6 harg6 x0 x5) := (rfl)

/-- What the body's run leaves in the output block. -/
theorem run_pieces : ∃ base : Fin 2 → Fin 4 → List (View.Piece (Elt F) S64x128x128 .f32),
    (kernelRun0_A (F := F) c i arg1 harg1 arg2 harg2 arg3 harg3 arg4 harg4 arg5 harg5 arg6 harg6 arg7 harg7 arg8 harg8 arg9 harg9
      arg10 harg10 arg11 harg11 x0 x1 x2 x3 x4 x5).1
      = outPieces arg9 arg10 arg11
        (fun s b => slots (queries arg8 (slabs fun s => qSlab (loadX arg1 harg1 x0) (loadA arg2 harg2 x1) (loadA arg3 harg3 x2) (loadW arg4 harg4 x3 s)) s b) (base s b) 64 le_rfl)
        (slabsT fun s => kSlab (loadX arg1 harg1 x0) (loadA arg2 harg2 x1) (loadA arg3 harg3 x2) (loadW arg5 harg5 x4 s))
        (slabs fun s => vSlab (loadX arg1 harg1 x0) (loadW arg6 harg6 x5 s)) :=
  ⟨_, (run_list ..).trans (congrArg (fun B => outPieces arg9 arg10 arg11 B _ _) (funext₂ fun s b => held_eq (c := c) ..))⟩

end Cert.KernelIdeal.Gen

end
-- ==== Proof.Spec.lean ====
/- The mathematics both programs compute, in extended reals: the rotated and normalised rows, the max-plus scores under
   the causal mask, the attention they weight, and the three facts that let the two spellings meet — a normalised row is
   made of real numbers whatever it is made from, keys whose score is −∞ may be left out of the attention, and the last
   contraction may be taken in four groups. -/
module

public import Idealize.ShloMosaic.PureOps.Ideal
public import Mathlib.Algebra.BigOperators.Fin

@[expose] public section

noncomputable section

namespace Cert.Tropical

open Idealize.ShloMosaic

/-- The small number added under the root. -/
def eps : EReal := Ideal.ofBits .f32 0x358637BD#32

/-- The length of a head's row, as the programs write it. -/
def len : EReal := Ideal.ofBits .f32 0x42800000#32

theorem eps_pos : ∃ r : ℝ, 0 < r ∧ eps = (r : EReal) := by
  refine ⟨_, ?_, by simp [eps, Ideal.ofBits, Ideal.ieee, -EReal.coe_mul]; rfl⟩
  norm_num

theorem len_eq : len = ((64 : ℝ) : EReal) := by
  simp [len, Ideal.ofBits, Ideal.ieee, -EReal.coe_mul]; norm_num

theorem negInf_eq : Ideal.ofBits .f32 0xFF800000#32 = ⊥ := by simp [Ideal.ofBits, Ideal.ieee]

/-- The largest of a row, as the programs write it. -/
theorem fold_max (n : ℕ) (f : Fin n → EReal) : Finset.univ.fold max (Ideal.ofBits .f32 0xFF800000#32) f = Finset.univ.sup f := by
  rw [negInf_eq]
  rfl

/-- A row of 64 turned by the angles whose cosines and sines are given: the first half `p₁c + p₂s`, the second `p₂c − p₁s`. -/
def rot (p : Fin 64 → EReal) (c s : Fin 32 → EReal) (d : Fin 64) : EReal :=
  if h : d.1 < 32 then p d * c ⟨d.1, h⟩ + p ⟨d.1 + 32, by omega⟩ * s ⟨d.1, h⟩
  else p d * c ⟨d.1 - 32, by omega⟩ - p ⟨d.1 - 32, by omega⟩ * s ⟨d.1 - 32, by omega⟩

/-- A row divided by the root of its mean square. -/
def nrm (r : Fin 64 → EReal) (d : Fin 64) : EReal :=
  r d * Ideal.rsqrt (Ideal.div (∑ e, r e * r e) len + eps)

/-- The max-plus product of two rows. -/
def score (q k : Fin 64 → EReal) : EReal := Finset.univ.sup fun d => q d + k d

/-- The score of query `t` and key `j`, −∞ for a key after the query. -/
def masked (q k : Fin 512 → Fin 64 → EReal) (t j : Fin 512) : EReal :=
  if j.1 ≤ t.1 then score (q t) (k j) else ⊥

/-- What a row of `n` scores makes of a column of `n` values: their mean, weighted by the exponentials of the scores. -/
def attend (n : ℕ) (s v : Fin n → EReal) : EReal :=
  ∑ j, Ideal.div (Ideal.exp (s j - Finset.univ.sup s)) (∑ j', Ideal.exp (s j' - Finset.univ.sup s)) * v j

/-- Not an infinity. -/
def IsReal (x : EReal) : Prop := ∃ r : ℝ, x = (r : EReal)

theorem isReal_iff (x : EReal) : IsReal x ↔ x ≠ ⊤ ∧ x ≠ ⊥ := by
  constructor
  · rintro ⟨r, rfl⟩; exact ⟨EReal.coe_ne_top r, EReal.coe_ne_bot r⟩
  · rintro ⟨h, h'⟩; exact ⟨x.toReal, (EReal.coe_toReal h h').symm⟩

theorem mul_self_nonneg' (x : EReal) : 0 ≤ x * x := by
  induction x with
  | bot => simp
  | top => simp
  | coe r => exact_mod_cast mul_self_nonneg r

theorem coe_sum {n : ℕ} (f : Fin n → ℝ) : ((∑ e, f e : ℝ) : EReal) = ∑ e, (f e : EReal) := by
  induction n with
  | zero => simp
  | succ n ih => rw [Fin.sum_univ_succ, Fin.sum_univ_succ, EReal.coe_add, ih]

theorem rsqrt_pos (r : ℝ) (h : 0 < r) : Ideal.rsqrt (r : EReal) = ((Real.sqrt r)⁻¹ : ℝ) := by
  show (if r < 0 then ⊥ else if r = 0 then ⊤ else (((Real.sqrt r)⁻¹ : ℝ) : EReal)) = _
  rw [if_neg h.not_gt, if_neg h.ne']

/-- A normalised row is made of real numbers, whatever the row is made of. -/
theorem nrm_isReal (r : Fin 64 → EReal) (d : Fin 64) : IsReal (nrm r d) := by
  obtain ⟨e, he, hε⟩ := eps_pos
  by_cases hr : ∀ d, IsReal (r d)
  · choose f hf using hr
    have hs : (∑ e, r e * r e) = ((∑ e, f e * f e : ℝ) : EReal) := by
      rw [coe_sum]
      exact Finset.sum_congr rfl fun i _ => by rw [hf]; norm_cast
    have hn : 0 ≤ ∑ e, f e * f e := Finset.sum_nonneg fun i _ => mul_self_nonneg _
    have hp : 0 < (∑ e, f e * f e) * (1 / 64) + e := by positivity
    refine ⟨f d * (Real.sqrt ((∑ e, f e * f e) * (1 / 64) + e))⁻¹, ?_⟩
    rw [nrm, hf d, hs, len_eq, hε, Ideal.div_coe (by norm_num), ← EReal.coe_mul, ← EReal.coe_add, rsqrt_pos _ hp, EReal.coe_mul]
  · obtain ⟨i, hi⟩ := not_forall.1 hr
    have hi' : r i * r i = ⊤ := by
      rw [isReal_iff] at hi
      rcases eq_or_ne (r i) ⊤ with h | h
      · rw [h]; rfl
      · have : r i = ⊥ := by by_contra h'; exact hi ⟨h, h'⟩
        rw [this]; rfl
    have hs : (∑ e, r e * r e) = ⊤ :=
      top_le_iff.1 (hi' ▸ Finset.single_le_sum (f := fun e => r e * r e) (fun j _ => mul_self_nonneg' _) (Finset.mem_univ i))
    refine ⟨0, ?_⟩
    rw [nrm, hs, len_eq, hε, Ideal.div_coe (by norm_num), EReal.top_mul_coe_of_pos (by norm_num), EReal.top_add_coe]
    show r d * 0 = _
    simp

theorem score_isReal (q k : Fin 64 → EReal) (hq : ∀ d, IsReal (q d)) (hk : ∀ d, IsReal (k d)) : IsReal (score q k) := by
  obtain ⟨d, -, hd⟩ := Finset.exists_mem_eq_sup (Finset.univ : Finset (Fin 64)) ⟨0, Finset.mem_univ _⟩ (fun d => q d + k d)
  obtain ⟨a, ha⟩ := hq d
  obtain ⟨b, hb⟩ := hk d
  exact ⟨a + b, by rw [score, hd, ha, hb]; rfl⟩

/-- A sum whose terms vanish from `n` on. -/
theorem sum_castLE {n N : ℕ} (h : n ≤ N) (f : Fin N → EReal) (hf : ∀ j, n ≤ j.1 → f j = 0) :
    ∑ j, f j = ∑ j : Fin n, f (Fin.castLE h j) := by
  obtain ⟨m, rfl⟩ := Nat.exists_eq_add_of_le h
  rw [Fin.sum_univ_add, Finset.sum_eq_zero (s := (Finset.univ : Finset (Fin m))) fun j _ => hf _ (by simp), add_zero]
  rfl

/-- Keys whose score is −∞ may be left out, if some score is real and none is +∞. -/
theorem attend_castLE {n N : ℕ} (h : n ≤ N) (s v : Fin N → EReal) (hs : ∀ j, n ≤ j.1 → s j = ⊥) (ht : ∀ j, s j ≠ ⊤)
    (j₀ : Fin N) (h₀ : s j₀ ≠ ⊥) : attend N s v = attend n (fun j => s (Fin.castLE h j)) (fun j => v (Fin.castLE h j)) := by
  have hsup : Finset.univ.sup s = Finset.univ.sup fun j : Fin n => s (Fin.castLE h j) := by
    refine le_antisymm (Finset.sup_le fun j _ => ?_) (Finset.sup_le fun j _ => Finset.le_sup (Finset.mem_univ _))
    by_cases hj : n ≤ j.1
    · rw [hs j hj]; exact bot_le
    · exact Finset.le_sup (f := fun j : Fin n => s (Fin.castLE h j)) (Finset.mem_univ ⟨j.1, by omega⟩)
  have hM : IsReal (Finset.univ.sup s) := by
    rw [isReal_iff]
    constructor
    · obtain ⟨d, -, hd⟩ := Finset.exists_mem_eq_sup Finset.univ ⟨j₀, Finset.mem_univ _⟩ s
      rw [hd]; exact ht d
    · intro hb
      exact h₀ (le_bot_iff.1 (hb ▸ Finset.le_sup (Finset.mem_univ j₀)))
  obtain ⟨M, hM⟩ := hM
  have hz : ∀ j, n ≤ j.1 → Ideal.exp (s j - Finset.univ.sup s) = 0 := by
    intro j hj
    rw [hs j hj, hM]
    rfl
  have hpos : ∀ x : EReal, 0 ≤ Ideal.exp x := by
    intro x
    induction x with
    | bot => simp
    | top => simp
    | coe r => simp [Real.exp_nonneg]
  have hD : (∑ j', Ideal.exp (s j' - Finset.univ.sup s)) ≠ 0 := by
    obtain ⟨a, ha⟩ := (isReal_iff (s j₀)).2 ⟨ht j₀, h₀⟩
    have h1 : 0 < Ideal.exp (s j₀ - Finset.univ.sup s) := by
      rw [ha, hM, ← EReal.coe_sub, Ideal.exp_coe]
      exact_mod_cast Real.exp_pos _
    exact (h1.trans_le (Finset.single_le_sum (f := fun j => Ideal.exp (s j - Finset.univ.sup s)) (fun j _ => hpos _)
      (Finset.mem_univ j₀))).ne'
  have hsum := sum_castLE h (fun j => Ideal.exp (s j - Finset.univ.sup s)) hz
  rw [attend, attend, sum_castLE h]
  · rw [hsum, hsup]
  · intro j hj
    rw [hz j hj, Ideal.div, if_neg hD, zero_mul, zero_mul]

/-- A sum over 512 taken in four groups of 128, the groups added in order. -/
theorem sum_four (f : Fin 512 → EReal) :
    ∑ e, f e = (((∑ e : Fin 128, f ⟨e.1, by omega⟩) + ∑ e : Fin 128, f ⟨128 + e.1, by omega⟩)
      + ∑ e : Fin 128, f ⟨256 + e.1, by omega⟩) + ∑ e : Fin 128, f ⟨384 + e.1, by omega⟩ := by
  rw [Fin.sum_univ_add (a := 384) (b := 128) f, Fin.sum_univ_add (a := 256) (b := 128), Fin.sum_univ_add (a := 128) (b := 128)]
  rfl

/-- A causal row's attention needs only the first `n` keys, if the query lies among them. -/
theorem attend_masked (q k : Fin 512 → Fin 64 → EReal) (hq : ∀ t d, IsReal (q t d)) (hk : ∀ t d, IsReal (k t d))
    (v : Fin 512 → EReal) (t : Fin 512) (n : ℕ) (hn : n ≤ 512) (ht : t.1 < n) :
    attend 512 (masked q k t) v = attend n (fun j => masked q k t (Fin.castLE hn j)) (fun j => v (Fin.castLE hn j)) := by
  refine attend_castLE hn _ _ (fun j hj => if_neg (by omega)) (fun j => ?_) t ?_
  · unfold masked
    split
    · exact ((isReal_iff _).1 (score_isReal _ _ (hq t) (hk j))).1
    · exact bot_ne_top
  · rw [masked, if_pos le_rfl]
    exact ((isReal_iff _).1 (score_isReal _ _ (hq t) (hk t))).2

/-- A product of the input with a weight, row `t` and column `e`. -/
def proj (x w : Fin 512 → Fin 512 → EReal) (t e : Fin 512) : EReal := ∑ i, x t i * w i e

/-- Head `h`'s normalised rotated row of a projection. -/
def headRow (x w : Fin 512 → Fin 512 → EReal) (c s : Fin 512 → Fin 32 → EReal) (h : Fin 8) (t : Fin 512) (d : Fin 64) : EReal :=
  nrm (rot (fun d => proj x w t ⟨h.1 * 64 + d.1, by omega⟩) (c t) (s t)) d

/-- The heads' attention side by side: row `t`, column `e` of head `e / 64`. -/
def attn (x : Fin 512 → Fin 512 → EReal) (c s : Fin 512 → Fin 32 → EReal) (wq wk wv : Fin 512 → Fin 512 → EReal) (t e : Fin 512) : EReal :=
  attend 512 (masked (headRow x wq c s ⟨e.1 / 64, by omega⟩) (headRow x wk c s ⟨e.1 / 64, by omega⟩) t) (fun j => proj x wv j e)

end Cert.Tropical

end
-- ==== Proof.Reading.lean ====
/- The attention kernel's pieces read at an index, in extended reals: a head's slab of queries or keys is the normalised
   rotated rows of `Spec`, a slab of values the projection, a group of scores the max-plus products, and an output tile the
   attention over the keys up to the group's last. -/
module

public import proofs.«01_k».proof.Proof.Blocks
public import proofs.«01_k».proof.Proof.Spec
public import Idealize.ShloMosaic.Lib.Pointwise
public import Idealize.ShloMosaic.Lib.WordCmp

@[expose] public section

noncomputable section

namespace Cert.KernelIdeal.Gen

open Cert.KernelIdeal Idealize.ShloMosaic Idealize.SL.Sem Cert.Tropical

/-- The rotation of a projection's rows. -/
def turnedRows (p : FVec Ideal S512x64 .f32) (c s : FVec Ideal S512x32 .f32) : FVec Ideal S512x64 .f32 :=
  have lo : FVec Ideal S512x32 .f32 := extractStridedSlice S512x32 ![0, 0] p slices_S512x64_o0_0_S512x32
  have hi : FVec Ideal S512x32 .f32 := extractStridedSlice S512x32 ![0, 32] p slices_S512x64_o0_32_S512x32
  concatenate S512x64 1 [⟨S512x32, addf (mulf lo c) (mulf hi s)⟩, ⟨S512x32, subf (mulf hi c) (mulf lo s)⟩] concatenates_S512x32_S512x32_S512x64_d1

/-- The normalisation of its rows. -/
def normedRows (r : FVec Ideal S512x64 .f32) : FVec Ideal S512x64 .f32 :=
  have ms : FVec Ideal S512 .f32 := multiReduction .add [1] S512 (mulf r r) 0x00000000#32 reduces_S512x64_S512 (.inl rfl) rfl
  have mean : FVec Ideal S512x1 .f32 := divf (shapeCast S512x1 ms shapeCasts_S512_S512x1) (broadcast S512x1 (Scalar.ofBits .f32 0x42800000#32))
  mulf r (broadcastTo S512x64 (rsqrt (addf mean (broadcast S512x1 (Scalar.ofBits .f32 0x358637BD#32)))) broadcasts_S512x1_S512x64)

theorem turnedRows_apply (p : FVec Ideal S512x64 .f32) (c s : FVec Ideal S512x32 .f32) (t : Fin 512) (d : Fin 64) :
    turnedRows p c s (ix2 t d) = rot (fun d => p (ix2 t d)) (fun d => c (ix2 t d)) (fun d => s (ix2 t d)) d := by
  pointwise [turnedRows]
  unfold rot
  split
  · simp only [Nat.add_comm 32 d.1]
  · rename_i hd
    have h32 : 32 + (d.1 - 32) = d.1 := by omega
    simp only [h32, Fin.eta]

theorem normedRows_apply (r : FVec Ideal S512x64 .f32) (t : Fin 512) (d : Fin 64) :
    normedRows r (ix2 t d) = nrm (fun d => r (ix2 t d)) d := by
  pointwise [normedRows]
  rw [nrm, len, eps]

theorem rotNorm_apply (p : FVec Ideal S512x64 .f32) (c s : FVec Ideal S512x32 .f32) (t : Fin 512) (d : Fin 64) :
    rotNorm p c s (ix2 t d) = nrm (rot (fun d => p (ix2 t d)) (fun d => c (ix2 t d)) (fun d => s (ix2 t d))) d := by
  rw [show rotNorm p c s = normedRows (turnedRows p c s) from rfl, normedRows_apply]
  simp only [turnedRows_apply]

theorem cols_apply (x : FVec Ideal S512x512 .f32) (w : FVec Ideal S512x64 .f32) (t : Fin 512) (d : Fin 64) :
    cols x w (ix2 t d) = ∑ e : Fin 512, x (ix2 t e) * w (ix2 e d) := by
  pointwise [cols]

theorem qSlab_apply (x : FVec Ideal S512x512 .f32) (c s : FVec Ideal S512x32 .f32) (w : FVec Ideal S512x64 .f32) (t : Fin 512) (d : Fin 64) :
    qSlab x c s w (ix3 0 t d) = rotNorm (cols x w) c s (ix2 t d) := by
  pointwise [qSlab]

theorem kSlab_apply (x : FVec Ideal S512x512 .f32) (c s : FVec Ideal S512x32 .f32) (w : FVec Ideal S512x64 .f32) (t : Fin 512) (d : Fin 64) :
    kSlab x c s w (ix3 0 d t) = rotNorm (cols x w) c s (ix2 t d) := by
  pointwise [kSlab]

theorem vSlab_apply (x : FVec Ideal S512x512 .f32) (w : FVec Ideal S512x64 .f32) (t : Fin 512) (d : Fin 64) :
    vSlab x w (ix3 0 t d) = cols x w (ix2 t d) := by
  pointwise [vSlab]

theorem slot_apply (qc : FVec Ideal S128x64 .f32) (d : Fin 64) (r l : Fin 128) : slot qc d (ix3 0 r l) = qc (ix2 r d) := by
  pointwise [slot]

/-- A load of a group of queries, of a broadcast column and of a keys' row, each without its axes of one. -/
theorem query_cast (v : FVec Ideal S1x128x64 .f32) (r : Fin 128) (d : Fin 64) :
    shapeCast S128x64 v shapeCasts_S1x128x64_S128x64 (ix2 r d) = v (ix3 0 r d) := by
  pointwise []

theorem term_cast (u : FVec Ideal S1x128x128 .f32) (v : FVec Ideal S1x1x128 .f32) (r l : Fin 128) :
    addf (shapeCast S128x128 u shapeCasts_S1x128x128_S128x128)
      (broadcastTo S128x128 (shapeCast S1x128 v shapeCasts_S1x1x128_S1x128) broadcasts_S1x128_S128x128) (ix2 r l)
      = u (ix3 0 r l) + v (ix3 0 0 l) := by
  pointwise []

/-- The word of a column and the word of a row compared. -/
theorem after_bit {n : ℕ} (t : Fin 128) (j : Fin n) (o : ℕ) (ho : o < 512) (hn : n ≤ 512) (a b : EReal) :
    Scalar.select (IntOp.cmpi CmpIPredicate.sge (IntOp.addi (BitVec.ofNat 32 t.1) (BitVec.ofNat 32 o)) (BitVec.ofNat 32 j.1)) a b
      = if j.1 ≤ o + t.1 then a else b := by
  have ht := t.2
  have hj := j.2
  rw [show IntOp.addi (BitVec.ofNat 32 t.1) (BitVec.ofNat 32 o) = BitVec.ofNat 32 (o + t.1) by
    rw [Nat.add_comm, BitVec.ofNat_add]; rfl, WordCmp.cmpi_sge_ofNat (by omega) (by omega)]
  by_cases h : j.1 ≤ o + t.1 <;> simp [h, Scalar.select]

theorem mask_eq : Named.named (F := Ideal) κ "mask" (φ := .f32) 0xF149F2CA#32 = (⊥ : EReal) := rfl

theorem tile1_apply (sc : FVec Ideal S128x128 .f32) (v : FVec Ideal S1x128x64 .f32) (r : Fin 128) (d : Fin 64) :
    tile1 sc v (ix2 r d) = attend 128 (fun j => if j.1 ≤ 0 + r.1 then sc (ix2 r j) else ⊥) (fun j => v (ix3 0 j d)) := by
  pointwise [tile1]
  simp only [after_bit (n := 128) _ _ 0 (by norm_num) (by norm_num), mask_eq, fold_max, Nat.zero_add]
  rfl

theorem tile2_apply (sc : FVec Ideal S128x256 .f32) (v : FVec Ideal S1x256x64 .f32) (r : Fin 128) (d : Fin 64) :
    tile2 sc v (ix2 r d) = attend 256 (fun j => if j.1 ≤ 128 + r.1 then sc (ix2 r j) else ⊥) (fun j => v (ix3 0 j d)) := by
  pointwise [tile2]
  simp only [after_bit (n := 256) _ _ 128 (by norm_num) (by norm_num), mask_eq, fold_max, Nat.zero_add]
  rfl

theorem tile3_apply (sc : FVec Ideal S128x384 .f32) (v : FVec Ideal S1x384x64 .f32) (r : Fin 128) (d : Fin 64) :
    tile3 sc v (ix2 r d) = attend 384 (fun j => if j.1 ≤ 256 + r.1 then sc (ix2 r j) else ⊥) (fun j => v (ix3 0 j d)) := by
  pointwise [tile3]
  simp only [after_bit (n := 384) _ _ 256 (by norm_num) (by norm_num), mask_eq, fold_max, Nat.zero_add]
  rfl

theorem tile4_apply (sc : FVec Ideal S128x512 .f32) (v : FVec Ideal S1x512x64 .f32) (r : Fin 128) (d : Fin 64) :
    tile4 sc v (ix2 r d) = attend 512 (fun j => if j.1 ≤ 384 + r.1 then sc (ix2 r j) else ⊥) (fun j => v (ix3 0 j d)) := by
  pointwise [tile4]
  simp only [after_bit (n := 512) _ _ 384 (by norm_num) (by norm_num), mask_eq, fold_max, Nat.zero_add]
  rfl

end Cert.KernelIdeal.Gen

end
-- ==== Proof.Scores.lean ====
/- What the attention kernel's loads read back from its scratch, and with it the output block: the scores of a group are the
   max-plus products, and the block at a row and a column is the attention of `Spec` for that row in that head. -/
module

public import proofs.«01_k».proof.Proof.Reading

@[expose] public section

noncomputable section

namespace Cert.KernelIdeal.Gen

open Cert.KernelIdeal Idealize.ShloMosaic Idealize.SL.Sem Cert.Tropical

section Places

variable {s : Shape} {e : EltTy} (off size : Fin s.rank → ℕ) (inb : ∀ a, off a + size a ≤ s.size a)

/-- The index a rectangle without strides places an index at. -/
theorem idx_unit (x : (Rect.unit off size inb).shape.Idx) (y : s.Idx) (h : ∀ a, off a + (x a).1 = (y a).1) :
    (Rect.unit off size inb).toLoadRect.idx x = y := by
  funext a
  apply Fin.ext
  rw [← h a]
  show off a + 1 * (x a).1 = _
  rw [Nat.one_mul]

/-- Under the last write the contents are what it stored, -/
theorem canon_hit (w : (Rect.unit off size inb).shape.Idx → Elt Ideal e) (L : List (View.Piece (Elt Ideal) s e))
    (x : (Rect.unit off size inb).shape.Idx) (y : s.Idx) (h : ∀ a, off a + (x a).1 = (y a).1) :
    View.canon (⟨Rect.unit off size inb, w⟩ :: L) y = w x := by
  rw [← idx_unit off size inb x y h]
  exact View.canon_cons_emb (Rect.unit off size inb) w L x

/-- beside it what was there. -/
theorem canon_miss (w : (Rect.unit off size inb).shape.Idx → Elt Ideal e) (L : List (View.Piece (Elt Ideal) s e)) (y : s.Idx)
    (a : Fin s.rank) (h : (y a).1 < off a ∨ off a + size a ≤ (y a).1) :
    View.canon (⟨Rect.unit off size inb, w⟩ :: L) y = View.canon L y :=
  View.canon_cons_of_not_mem _ L (Rect.not_mem_set_of_axis _ y a _ _ rfl rfl rfl h)

end Places

theorem canon_slabs (a : Fin 2 → FVec Ideal S1x512x64 .f32) (s : Fin 2) (t : Fin 512) (d : Fin 64) :
    View.canon (Val := Elt Ideal) (slabs a) (ix3 s t d) = a s (ix3 0 t d) := by
  have hit (w : FVec Ideal S1x512x64 .f32) (L : List (View.Piece (Elt Ideal) S2x512x64 .f32)) :
      View.canon (Val := Elt Ideal) (e := .f32) (⟨slabRect s, w⟩ :: L) (ix3 s t d) = w (ix3 0 t d) :=
    canon_hit (e := .f32) (s := S2x512x64) ![s.1, 0, 0] S1x512x64.size (slabIn s) w L (ix3 0 t d : S1x512x64.Idx) _ (by intro a; fin_cases a <;> simp)
  unfold slabs
  fin_cases s
  · exact (canon_miss (e := .f32) (s := S2x512x64) ![1, 0, 0] S1x512x64.size (slabIn 1) (a 1) _ _ 0 (.inl Nat.zero_lt_one)).trans (hit _ _)
  · exact hit _ _

theorem canon_slabsT (a : Fin 2 → FVec Ideal S1x64x512 .f32) (s : Fin 2) (d : Fin 64) (t : Fin 512) :
    View.canon (Val := Elt Ideal) (slabsT a) (ix3 s d t) = a s (ix3 0 d t) := by
  have hit (w : FVec Ideal S1x64x512 .f32) (L : List (View.Piece (Elt Ideal) S2x64x512 .f32)) :
      View.canon (Val := Elt Ideal) (e := .f32) (⟨slabTRect s, w⟩ :: L) (ix3 s d t) = w (ix3 0 d t) :=
    canon_hit (e := .f32) (s := S2x64x512) ![s.1, 0, 0] S1x64x512.size (slabTIn s) w L (ix3 0 d t : S1x64x512.Idx) _ (by intro a; fin_cases a <;> simp)
  unfold slabsT
  fin_cases s
  · exact (canon_miss (e := .f32) (s := S2x64x512) ![1, 0, 0] S1x64x512.size (slabTIn 1) (a 1) _ _ 0 (.inl Nat.zero_lt_one)).trans (hit _ _)
  · exact hit _ _

theorem canon_slots (qc : FVec Ideal S128x64 .f32) (base : List (View.Piece (Elt Ideal) S64x128x128 .f32)) (d : Fin 64) (r l : Fin 128) :
    (n : ℕ) → (h : n ≤ 64) → d.1 < n → View.canon (Val := Elt Ideal) (slots qc base n h) (ix3 d r l) = qc (ix2 r d)
  | 0, _, hd => absurd hd (Nat.not_lt_zero _)
  | n + 1, h, hd => by
    unfold slots
    by_cases hn : d.1 = n
    · have e : d = ⟨n, h⟩ := Fin.ext hn
      subst e
      rw [canon_hit (s := S64x128x128) ![n, 0, 0] S1x128x128.size (slotIn ⟨n, h⟩) _ _ (ix3 0 r l : S1x128x128.Idx) _
        (by intro a; fin_cases a <;> simp), slot_apply]
    · rw [canon_miss (s := S64x128x128) ![n, 0, 0] S1x128x128.size (slotIn ⟨n, h⟩) _ _ _ 0 (.inl (by simp; omega))]
      exact canon_slots qc base d r l n _ (by omega)

variable (arg8 : Memref sig .tc .vmem S2x512x64 .f32) (arg9 : Memref sig .tc .vmem S2x64x512 .f32)
  (arg10 : Memref sig .tc .vmem S2x512x64 .f32) (arg11 : Memref sig .tc .vmem S64x128x128 .f32)

/-- Row `r` of group `b`. -/
abbrev at4 (b : Fin 4) (r : Fin 128) : Fin 512 := ⟨b.1 * 128 + r.1, by omega⟩

theorem queries_apply (a : Fin 2 → FVec Ideal S1x512x64 .f32) (s : Fin 2) (b : Fin 4) (r : Fin 128) (d : Fin 64) :
    queries arg8 (slabs a) s b (ix2 r d) = a s (ix3 0 (at4 b r) d) := by
  rw [queries, query_cast, View.readCov_eq_canon', ← canon_slabs a]
  exact congrArg _ (idx_unit (s := S2x512x64) ![s.1, b.1 * 128, 0] S1x128x64.size (queryIn s b) (ix3 0 r d : S1x128x64.Idx) _
    (by intro a; fin_cases a <;> simp))

theorem term_apply (qc : FVec Ideal S128x64 .f32) (base : List (View.Piece (Elt Ideal) S64x128x128 .f32))
    (k : Fin 2 → FVec Ideal S1x64x512 .f32) (s : Fin 2) (b : Fin 4) (d : Fin 64) (r l : Fin 128) :
    term arg9 arg11 (slots qc base 64 le_rfl) (slabsT k) s b d (ix2 r l) = qc (ix2 r d) + k s (ix3 0 d (at4 b l)) := by
  rw [term, term_cast, View.readCov_eq_canon', View.readCov_eq_canon', ← canon_slabsT k, ← canon_slots qc base d r l 64 le_rfl d.2]
  exact congrArg₂ (fun x y : EReal => x + y)
    (congrArg _ (idx_unit (s := S64x128x128) ![d.1, 0, 0] S1x128x128.size (slotIn d) (ix3 0 r l : S1x128x128.Idx) _
      (by intro a; fin_cases a <;> simp)))
    (congrArg _ (idx_unit (s := S2x64x512) ![s.1, d.1, b.1 * 128] S1x1x128.size (rowIn s d b) (ix3 0 0 l : S1x1x128.Idx) _
      (by intro a; fin_cases a <;> simp)))

theorem chain_le (B : List (View.Piece (Elt Ideal) S64x128x128 .f32)) (K : List (View.Piece (Elt Ideal) S2x64x512 .f32)) (s : Fin 2)
    (b : Fin 4) (r l : Fin 128) (c : EReal) : (n : ℕ) → (h : n < 64) →
    ((chain arg9 arg11 B K s b n h (ix2 r l) : EReal) ≤ c ↔ ∀ d : Fin 64, d.1 ≤ n → (term arg9 arg11 B K s b d (ix2 r l) : EReal) ≤ c)
  | 0, h => by
    constructor
    · intro hc d hd
      have : d = ⟨0, h⟩ := Fin.ext (Nat.le_zero.1 hd)
      exact this ▸ hc
    · intro hc
      exact hc ⟨0, h⟩ le_rfl
  | n + 1, h => by
    show max (chain arg9 arg11 B K s b n (Nat.lt_of_succ_lt h) (ix2 r l) : EReal) (term arg9 arg11 B K s b ⟨n + 1, h⟩ (ix2 r l)) ≤ c ↔ _
    rw [max_le_iff, chain_le B K s b r l c n]
    constructor
    · rintro ⟨h1, h2⟩ d hd
      by_cases hn : d.1 = n + 1
      · have : d = ⟨n + 1, h⟩ := Fin.ext hn
        exact this ▸ h2
      · exact h1 d (by omega)
    · intro hc
      exact ⟨fun d hd => hc d (by omega), hc ⟨n + 1, h⟩ le_rfl⟩

/-- A group of scores is made of the max-plus products. -/
theorem scores_apply (a : Fin 2 → FVec Ideal S1x512x64 .f32) (base : List (View.Piece (Elt Ideal) S64x128x128 .f32))
    (k : Fin 2 → FVec Ideal S1x64x512 .f32) (s : Fin 2) (b b' : Fin 4) (r l : Fin 128) :
    scores arg9 arg11 (slots (queries arg8 (slabs a) s b) base 64 le_rfl) (slabsT k) s b' (ix2 r l)
      = score (fun d => a s (ix3 0 (at4 b r) d)) (fun d => k s (ix3 0 d (at4 b' l))) := by
  refine eq_of_forall_ge_iff (α := EReal) fun c => ?_
  rw [scores, chain_le, score, Finset.sup_le_iff]
  simp only [term_apply, queries_apply]
  exact ⟨fun h d _ => h d (by omega), fun h d _ => h d (Finset.mem_univ d)⟩

end Cert.KernelIdeal.Gen

end
-- ==== Proof.Output.lean ====
/- The output block of one run of the attention kernel's body: its eight tiles cover it, and at a row and a column it holds
   the attention of `Spec` for that row in that head. -/
module

public import proofs.«01_k».proof.Proof.Scores

@[expose] public section

noncomputable section

namespace Cert.KernelIdeal.Gen

open Cert.KernelIdeal Idealize.ShloMosaic Idealize.SL.Sem Cert.Tropical

/-- The columns of scores laid one group after the other read as one row of scores. -/
theorem lay2 (f : Fin 4 → FVec Ideal S128x128 .f32) (g : Fin 512 → EReal) (r : Fin 128) (h : ∀ b l, f b (ix2 r l) = g (at4 b l)) (j : Fin 256) :
    concatenate S128x256 1 [⟨S128x128, f 0⟩, ⟨S128x128, f 1⟩] concatenates_S128x128_S128x128_S128x256_d1 (ix2 r j) = g ⟨j.1, by omega⟩ := by
  pointwise []
  simp only [h]
  split
  · exact congrArg g (Fin.ext (by simp))
  · exact congrArg g (Fin.ext (by simp; omega))

theorem lay3 (f : Fin 4 → FVec Ideal S128x128 .f32) (g : Fin 512 → EReal) (r : Fin 128) (h : ∀ b l, f b (ix2 r l) = g (at4 b l)) (j : Fin 384) :
    concatenate S128x384 1 [⟨S128x128, f 0⟩, ⟨S128x128, f 1⟩, ⟨S128x128, f 2⟩] concatenates_S128x128_S128x128_S128x128_S128x384_d1 (ix2 r j)
      = g ⟨j.1, by omega⟩ := by
  pointwise []
  simp only [h]
  split
  · exact congrArg g (Fin.ext (by simp))
  · split
    · exact congrArg g (Fin.ext (by simp; omega))
    · exact congrArg g (Fin.ext (by simp; omega))

theorem lay4 (f : Fin 4 → FVec Ideal S128x128 .f32) (g : Fin 512 → EReal) (r : Fin 128) (h : ∀ b l, f b (ix2 r l) = g (at4 b l)) (j : Fin 512) :
    concatenate S128x512 1 [⟨S128x128, f 0⟩, ⟨S128x128, f 1⟩, ⟨S128x128, f 2⟩, ⟨S128x128, f 3⟩]
      concatenates_S128x128_S128x128_S128x128_S128x128_S128x512_d1 (ix2 r j) = g j := by
  pointwise []
  simp only [h]
  split
  · exact congrArg g (Fin.ext (by simp))
  · split
    · exact congrArg g (Fin.ext (by simp; omega))
    · split
      · exact congrArg g (Fin.ext (by simp; omega))
      · exact congrArg g (Fin.ext (by simp; omega))

variable (arg8 : Memref sig .tc .vmem S2x512x64 .f32) (arg9 : Memref sig .tc .vmem S2x64x512 .f32)
  (arg10 : Memref sig .tc .vmem S2x512x64 .f32) (arg11 : Memref sig .tc .vmem S64x128x128 .f32)

theorem values1 (v : Fin 2 → FVec Ideal S1x512x64 .f32) (s : Fin 2) (j : Fin 128) (d : Fin 64) :
    arg10.view.readCov (slabs v) (Rect.unit (s := S2x512x64) ![s.1, 0, 0] S1x128x64.size (valueIn1 s)).toLoadRect (ix3 0 j d)
      = v s (ix3 0 (Fin.castLE (by norm_num) j) d) := by
  rw [View.readCov_eq_canon', ← canon_slabs v]
  exact congrArg _ (idx_unit (s := S2x512x64) ![s.1, 0, 0] S1x128x64.size (valueIn1 s) (ix3 0 j d : S1x128x64.Idx) _
    (by intro a; fin_cases a <;> simp))

theorem values2 (v : Fin 2 → FVec Ideal S1x512x64 .f32) (s : Fin 2) (j : Fin 256) (d : Fin 64) :
    arg10.view.readCov (slabs v) (Rect.unit (s := S2x512x64) ![s.1, 0, 0] S1x256x64.size (valueIn2 s)).toLoadRect (ix3 0 j d)
      = v s (ix3 0 (Fin.castLE (by norm_num) j) d) := by
  rw [View.readCov_eq_canon', ← canon_slabs v]
  exact congrArg _ (idx_unit (s := S2x512x64) ![s.1, 0, 0] S1x256x64.size (valueIn2 s) (ix3 0 j d : S1x256x64.Idx) _
    (by intro a; fin_cases a <;> simp))

theorem values3 (v : Fin 2 → FVec Ideal S1x512x64 .f32) (s : Fin 2) (j : Fin 384) (d : Fin 64) :
    arg10.view.readCov (slabs v) (Rect.unit (s := S2x512x64) ![s.1, 0, 0] S1x384x64.size (valueIn3 s)).toLoadRect (ix3 0 j d)
      = v s (ix3 0 (Fin.castLE (by norm_num) j) d) := by
  rw [View.readCov_eq_canon', ← canon_slabs v]
  exact congrArg _ (idx_unit (s := S2x512x64) ![s.1, 0, 0] S1x384x64.size (valueIn3 s) (ix3 0 j d : S1x384x64.Idx) _
    (by intro a; fin_cases a <;> simp))

theorem values4 (v : Fin 2 → FVec Ideal S1x512x64 .f32) (s : Fin 2) (j : Fin 512) (d : Fin 64) :
    arg10.view.readCov (slabs v) (Rect.unit (s := S2x512x64) ![s.1, 0, 0] S1x512x64.size (valueIn4 s)).toLoadRect (ix3 0 j d)
      = v s (ix3 0 (Fin.castLE (by norm_num) j) d) := by
  rw [View.readCov_eq_canon', ← canon_slabs v]
  exact congrArg _ (idx_unit (s := S2x512x64) ![s.1, 0, 0] S1x512x64.size (valueIn4 s) (ix3 0 j d : S1x512x64.Idx) _
    (by intro a; fin_cases a <;> simp))

variable (a : Fin 2 → FVec Ideal S1x512x64 .f32) (k : Fin 2 → FVec Ideal S1x64x512 .f32) (v : Fin 2 → FVec Ideal S1x512x64 .f32)
  (ha : ∀ s t d, IsReal (a s (ix3 0 t d))) (hk : ∀ s t d, IsReal (k s (ix3 0 d t)))

/-- The attention the slabs hold: head `s`, query `t`, column `d`. -/
def headOut (s : Fin 2) (t : Fin 512) (d : Fin 64) : EReal :=
  attend 512 (masked (fun t d => a s (ix3 0 t d)) (fun t d => k s (ix3 0 d t)) t) (fun j => v s (ix3 0 j d))

include ha hk

theorem piece1_apply (base : List (View.Piece (Elt Ideal) S64x128x128 .f32)) (s : Fin 2) (r : Fin 128) (d : Fin 64) :
    piece1 arg9 arg10 arg11 (slots (queries arg8 (slabs a) s 0) base 64 le_rfl) (slabsT k) (slabs v) s (ix2 r d)
      = headOut a k v s (at4 0 r) d := by
  have row (j : Fin 128) := scores_apply arg8 arg9 arg11 a base k s 0 0 r j
  rw [headOut, attend_masked _ _ (ha s) (hk s) _ _ 128 (by norm_num) (by simp), piece1, tile1_apply]
  congr 1
  · funext j
    rw [masked]
    refine if_congr (by simp) ((row j).trans ?_) rfl
    exact congrArg (fun x : Fin 512 => score (fun d => a s (ix3 0 (at4 0 r) d)) fun d => k s (ix3 0 d x)) (Fin.ext (by simp))
  · funext j
    exact values1 arg10 v s j d

theorem piece2_apply (base : List (View.Piece (Elt Ideal) S64x128x128 .f32)) (s : Fin 2) (r : Fin 128) (d : Fin 64) :
    piece2 arg9 arg10 arg11 (slots (queries arg8 (slabs a) s 1) base 64 le_rfl) (slabsT k) (slabs v) s (ix2 r d)
      = headOut a k v s (at4 1 r) d := by
  have row := lay2 (fun b' => scores arg9 arg11 (slots (queries arg8 (slabs a) s 1) base 64 le_rfl) (slabsT k) s b')
    (fun j => score (fun d => a s (ix3 0 (at4 1 r) d)) fun d => k s (ix3 0 d j)) r
    fun b' l => scores_apply arg8 arg9 arg11 a base k s 1 b' r l
  rw [headOut, attend_masked _ _ (ha s) (hk s) _ _ 256 (by norm_num) (by simp; omega), piece2, tile2_apply]
  congr 1
  · funext j
    rw [masked]
    refine if_congr (by simp) ((row j).trans ?_) rfl
    rfl
  · funext j
    exact values2 arg10 v s j d

theorem piece3_apply (base : List (View.Piece (Elt Ideal) S64x128x128 .f32)) (s : Fin 2) (r : Fin 128) (d : Fin 64) :
    piece3 arg9 arg10 arg11 (slots (queries arg8 (slabs a) s 2) base 64 le_rfl) (slabsT k) (slabs v) s (ix2 r d)
      = headOut a k v s (at4 2 r) d := by
  have row := lay3 (fun b' => scores arg9 arg11 (slots (queries arg8 (slabs a) s 2) base 64 le_rfl) (slabsT k) s b')
    (fun j => score (fun d => a s (ix3 0 (at4 2 r) d)) fun d => k s (ix3 0 d j)) r
    fun b' l => scores_apply arg8 arg9 arg11 a base k s 2 b' r l
  rw [headOut, attend_masked _ _ (ha s) (hk s) _ _ 384 (by norm_num) (by simp; omega), piece3, tile3_apply]
  congr 1
  · funext j
    rw [masked]
    refine if_congr (by simp) ((row j).trans ?_) rfl
    rfl
  · funext j
    exact values3 arg10 v s j d

theorem piece4_apply (base : List (View.Piece (Elt Ideal) S64x128x128 .f32)) (s : Fin 2) (r : Fin 128) (d : Fin 64) :
    piece4 arg9 arg10 arg11 (slots (queries arg8 (slabs a) s 3) base 64 le_rfl) (slabsT k) (slabs v) s (ix2 r d)
      = headOut a k v s (at4 3 r) d := by
  have row := lay4 (fun b' => scores arg9 arg11 (slots (queries arg8 (slabs a) s 3) base 64 le_rfl) (slabsT k) s b')
    (fun j => score (fun d => a s (ix3 0 (at4 3 r) d)) fun d => k s (ix3 0 d j)) r
    fun b' l => scores_apply arg8 arg9 arg11 a base k s 3 b' r l
  rw [headOut, attend_masked _ _ (ha s) (hk s) _ _ 512 (by norm_num) (by simp; omega), piece4, tile4_apply]
  congr 1
  · funext j
    rw [masked]
    refine if_congr (by simp) ((row j).trans ?_) rfl
    rfl
  · funext j
    exact values4 arg10 v s j d

omit ha hk in
/-- Eight tiles, the last stored first. -/
theorem canon_tiles (T : Fin 2 → Fin 4 → FVec Ideal S128x64 .f32) (s : Fin 2) (b : Fin 4) (r : Fin 128) (d : Fin 64) :
    View.canon (Val := Elt Ideal) (e := .f32)
      [⟨tileRect 1 3, T 1 3⟩, ⟨tileRect 1 2, T 1 2⟩, ⟨tileRect 1 1, T 1 1⟩, ⟨tileRect 1 0, T 1 0⟩,
       ⟨tileRect 0 3, T 0 3⟩, ⟨tileRect 0 2, T 0 2⟩, ⟨tileRect 0 1, T 0 1⟩, ⟨tileRect 0 0, T 0 0⟩]
      (ix2 (at4 b r) (⟨s.1 * 64 + d.1, by omega⟩ : Fin 128)) = T s b (ix2 r d) := by
  have hit (L : List (View.Piece (Elt Ideal) S512x128 .f32)) : View.canon (Val := Elt Ideal) (e := .f32) (⟨tileRect s b, T s b⟩ :: L)
      (ix2 (at4 b r) (⟨s.1 * 64 + d.1, by omega⟩ : Fin 128)) = T s b (ix2 r d) :=
    canon_hit (e := .f32) (s := S512x128) ![b.1 * 128, s.1 * 64] S128x64.size (tileIn s b) (T s b) L (ix2 r d : S128x64.Idx) _
      (by intro a; fin_cases a <;> simp)
  have miss (s' : Fin 2) (b' : Fin 4) (h : s' ≠ s ∨ b' ≠ b) (L : List (View.Piece (Elt Ideal) S512x128 .f32)) :
      View.canon (Val := Elt Ideal) (e := .f32) (⟨tileRect s' b', T s' b'⟩ :: L) (ix2 (at4 b r) (⟨s.1 * 64 + d.1, by omega⟩ : Fin 128))
        = View.canon (Val := Elt Ideal) (e := .f32) L (ix2 (at4 b r) (⟨s.1 * 64 + d.1, by omega⟩ : Fin 128)) := by
    rcases h with h | h
    · refine canon_miss (e := .f32) (s := S512x128) ![b'.1 * 128, s'.1 * 64] S128x64.size (tileIn s' b') (T s' b') _ _ 1 ?_
      have := Fin.val_ne_of_ne h
      show s.1 * 64 + d.1 < s'.1 * 64 ∨ s'.1 * 64 + 64 ≤ s.1 * 64 + d.1
      omega
    · refine canon_miss (e := .f32) (s := S512x128) ![b'.1 * 128, s'.1 * 64] S128x64.size (tileIn s' b') (T s' b') _ _ 0 ?_
      have := Fin.val_ne_of_ne h
      show b.1 * 128 + r.1 < b'.1 * 128 ∨ b'.1 * 128 + 128 ≤ b.1 * 128 + r.1
      omega
  have step (s' : Fin 2) (b' : Fin 4) (L : List (View.Piece (Elt Ideal) S512x128 .f32))
      (h : ¬(s' = s ∧ b' = b) → View.canon (Val := Elt Ideal) (e := .f32) L (ix2 (at4 b r) (⟨s.1 * 64 + d.1, by omega⟩ : Fin 128)) = T s b (ix2 r d)) :
      View.canon (Val := Elt Ideal) (e := .f32) (⟨tileRect s' b', T s' b'⟩ :: L) (ix2 (at4 b r) (⟨s.1 * 64 + d.1, by omega⟩ : Fin 128))
        = T s b (ix2 r d) := by
    by_cases e : s' = s ∧ b' = b
    · obtain ⟨rfl, rfl⟩ := e
      exact hit L
    · exact (miss s' b' (by tauto) L).trans (h e)
  refine step 1 3 _ fun h13 => step 1 2 _ fun h12 => step 1 1 _ fun h11 => step 1 0 _ fun h10 =>
    step 0 3 _ fun h03 => step 0 2 _ fun h02 => step 0 1 _ fun h01 => step 0 0 _ fun h00 => ?_
  exfalso
  fin_cases s <;> fin_cases b <;> simp_all

/-- The block at a row and a column of a head. -/
theorem outPieces_apply (base : Fin 2 → Fin 4 → List (View.Piece (Elt Ideal) S64x128x128 .f32)) (s : Fin 2) (b : Fin 4) (r : Fin 128) (d : Fin 64) :
    View.canon (Val := Elt Ideal) (e := .f32)
      (outPieces arg9 arg10 arg11 (fun s b => slots (queries arg8 (slabs a) s b) (base s b) 64 le_rfl) (slabsT k) (slabs v))
      (ix2 (at4 b r) (⟨s.1 * 64 + d.1, by omega⟩ : Fin 128)) = headOut a k v s (at4 b r) d := by
  refine (canon_tiles (fun s => ![piece1 arg9 arg10 arg11 (slots (queries arg8 (slabs a) s 0) (base s 0) 64 le_rfl) (slabsT k) (slabs v) s,
    piece2 arg9 arg10 arg11 (slots (queries arg8 (slabs a) s 1) (base s 1) 64 le_rfl) (slabsT k) (slabs v) s,
    piece3 arg9 arg10 arg11 (slots (queries arg8 (slabs a) s 2) (base s 2) 64 le_rfl) (slabsT k) (slabs v) s,
    piece4 arg9 arg10 arg11 (slots (queries arg8 (slabs a) s 3) (base s 3) 64 le_rfl) (slabsT k) (slabs v) s]) s b r d).trans ?_
  fin_cases b
  · exact piece1_apply arg8 arg9 arg10 arg11 a k v ha hk (base s 0) s r d
  · exact piece2_apply arg8 arg9 arg10 arg11 a k v ha hk (base s 1) s r d
  · exact piece3_apply arg8 arg9 arg10 arg11 a k v ha hk (base s 2) s r d
  · exact piece4_apply arg8 arg9 arg10 arg11 a k v ha hk (base s 3) s r d

end Cert.KernelIdeal.Gen

end
-- ==== Proof.KernelValue.lean ====
/- What the two regions leave in their arrays, in extended reals: the first the heads' attention side by side, the second its
   product with the output weight. -/
module

public import proofs.«01_k».proof.Proof.Output
public import Idealize.ShloMosaic.Lib.WholeRead

@[expose] public section

noncomputable section

namespace Cert.KernelIdeal.Gen

open Cert.KernelIdeal Idealize.ShloMosaic Idealize.ShloMosaic.TcCoe Idealize.SL.Sem Cert.Tropical

section Body

variable (c : Dev nD) (i : grid0.Coords) (arg1 : Memref sig .tc .vmem S512x512 .f32) (harg1 : arg1.IsWhole)
  (arg2 : Memref sig .tc .vmem S512x32 .f32) (harg2 : arg2.IsWhole) (arg3 : Memref sig .tc .vmem S512x32 .f32) (harg3 : arg3.IsWhole)
  (arg4 : Memref sig .tc .vmem S512x128 .f32) (harg4 : arg4.IsWhole) (arg5 : Memref sig .tc .vmem S512x128 .f32) (harg5 : arg5.IsWhole)
  (arg6 : Memref sig .tc .vmem S512x128 .f32) (harg6 : arg6.IsWhole) (arg7 : Memref sig .tc .vmem S512x128 .f32) (harg7 : arg7.IsWhole)
  (arg8 : Memref sig .tc .vmem S2x512x64 .f32) (harg8 : arg8.IsWhole) (arg9 : Memref sig .tc .vmem S2x64x512 .f32) (harg9 : arg9.IsWhole)
  (arg10 : Memref sig .tc .vmem S2x512x64 .f32) (harg10 : arg10.IsWhole) (arg11 : Memref sig .tc .vmem S64x128x128 .f32) (harg11 : arg11.IsWhole)
  (x0 : Vec Ideal S512x512 .f32) (x1 : Vec Ideal S512x32 .f32) (x2 : Vec Ideal S512x32 .f32) (x3 : Vec Ideal S512x128 .f32)
  (x4 : Vec Ideal S512x128 .f32) (x5 : Vec Ideal S512x128 .f32)

theorem loadX_apply (t e : Fin 512) : loadX arg1 harg1 x0 (ix2 t e) = x0 (ix2 t e) := by
  rw [loadX, Memref.IsWhole.readAt_unread]
  exact congrArg x0 (idx_unit (s := S512x512) ![0, 0] S512x512.size inb_S512x512_S512x512_0_0 (ix2 t e : S512x512.Idx) _
    (by intro a; fin_cases a <;> simp))

theorem loadA_apply (t : Fin 512) (d : Fin 32) : loadA arg2 harg2 x1 (ix2 t d) = x1 (ix2 t d) := by
  rw [loadA, Memref.IsWhole.readAt_unread]
  exact congrArg x1 (idx_unit (s := S512x32) ![0, 0] S512x32.size inb_S512x32_S512x32_0_0 (ix2 t d : S512x32.Idx) _
    (by intro a; fin_cases a <;> simp))

theorem loadW_apply (s : Fin 2) (e : Fin 512) (d : Fin 64) :
    loadW arg4 harg4 x3 s (ix2 e d) = x3 (ix2 e (⟨s.1 * 64 + d.1, by omega⟩ : Fin 128)) := by
  rw [loadW, Memref.IsWhole.readAt_unread]
  exact congrArg x3 (idx_unit (s := S512x128) ![0, s.1 * 64] S512x64.size (colIn s) (ix2 e d : S512x64.Idx) _
    (by intro a; fin_cases a <;> simp))

/-- A head's columns of the product of the input block with a weight block. -/
def blockProj (x : Vec Ideal S512x512 .f32) (w : Vec Ideal S512x128 .f32) (s : Fin 2) (t : Fin 512) (d : Fin 64) : EReal :=
  ∑ e : Fin 512, x (ix2 t e) * w (ix2 e (⟨s.1 * 64 + d.1, by omega⟩ : Fin 128))

/-- and its normalised rotated rows. -/
def blockRow (x : Vec Ideal S512x512 .f32) (ca sa : Vec Ideal S512x32 .f32) (w : Vec Ideal S512x128 .f32) (s : Fin 2) (t : Fin 512) (d : Fin 64) :
    EReal :=
  nrm (rot (blockProj x w s t) (fun d => ca (ix2 t d)) (fun d => sa (ix2 t d))) d

theorem rowLoaded (s : Fin 2) (t : Fin 512) (d : Fin 64) :
    rotNorm (cols (loadX arg1 harg1 x0) (loadW arg4 harg4 x3 s)) (loadA arg2 harg2 x1) (loadA arg3 harg3 x2) (ix2 t d)
      = blockRow x0 x1 x2 x3 s t d := by
  rw [rotNorm_apply]
  simp only [cols_apply, loadX_apply, loadA_apply, loadW_apply]
  rfl

/-- The output block at a row and a column. -/
theorem out_apply (s : Fin 2) (b : Fin 4) (r : Fin 128) (d : Fin 64) :
    out0_A_6 c i arg1 harg1 arg2 harg2 arg3 harg3 arg4 harg4 arg5 harg5 arg6 harg6 arg7 harg7 arg8 harg8 arg9 harg9 arg10 harg10 arg11 harg11
        x0 x1 x2 x3 x4 x5 (ix2 (at4 b r) (⟨s.1 * 64 + d.1, by omega⟩ : Fin 128))
      = attend 512 (masked (blockRow x0 x1 x2 x3 s) (blockRow x0 x1 x2 x4 s) (at4 b r)) (fun j => blockProj x0 x5 s j d) := by
  obtain ⟨base, hb⟩ := run_pieces (F := Ideal) arg8 arg9 arg10 arg11 c i arg1 harg1 arg2 harg2 arg3 harg3 arg4 harg4 arg5 harg5 arg6 harg6 arg7 harg7
    harg8 harg9 harg10 harg11 x0 x1 x2 x3 x4 x5
  rw [out0_A_6, View.read_writes_junk_apply_eq_canon, hb]
  refine (outPieces_apply arg8 arg9 arg10 arg11 _ _ _ ?_ ?_ base s b r d).trans ?_
  · intro s t d
    rw [qSlab_apply, rowLoaded]
    exact nrm_isReal _ _
  · intro s t d
    rw [kSlab_apply, rowLoaded]
    exact nrm_isReal _ _
  · unfold headOut
    simp only [qSlab_apply, kSlab_apply, vSlab_apply, rowLoaded, cols_apply, loadX_apply, loadW_apply]
    rfl

end Body

section Arrays

variable (V : (c : Dev nD) → (b : Ref sig .tc) → Buf (Elt Ideal) ((c : Thread nD τ).loc b)) (c : Dev nD)

theorem place0 : ∀ t : Fin cfg0.N, win0_0.index t (0 : Fin 2) = 0 ∧ win0_0.index t (1 : Fin 2) = 0 := (by decide +kernel : ∀ t : Fin grid0.N, _)
theorem place1 : ∀ t : Fin cfg0.N, win0_1.index t (0 : Fin 2) = 0 ∧ win0_1.index t (1 : Fin 2) = 0 := (by decide +kernel : ∀ t : Fin grid0.N, _)
theorem place2 : ∀ t : Fin cfg0.N, win0_2.index t (0 : Fin 2) = 0 ∧ win0_2.index t (1 : Fin 2) = 0 := (by decide +kernel : ∀ t : Fin grid0.N, _)
theorem place3 : ∀ t : Fin cfg0.N, win0_3.index t (0 : Fin 2) = 0 ∧ win0_3.index t (1 : Fin 2) = t.1 := (by decide +kernel : ∀ t : Fin grid0.N, _)
theorem place4 : ∀ t : Fin cfg0.N, win0_4.index t (0 : Fin 2) = 0 ∧ win0_4.index t (1 : Fin 2) = t.1 := (by decide +kernel : ∀ t : Fin grid0.N, _)
theorem place5 : ∀ t : Fin cfg0.N, win0_5.index t (0 : Fin 2) = 0 ∧ win0_5.index t (1 : Fin 2) = t.1 := (by decide +kernel : ∀ t : Fin grid0.N, _)
theorem place6 : ∀ t : Fin cfg0.N, win0_6.index t (0 : Fin 2) = 0 ∧ win0_6.index t (1 : Fin 2) = t.1 := (by decide +kernel : ∀ t : Fin grid0.N, _)

/-- A point of the first region's grid as a number below four. -/
def pair (t : Fin cfg0.N) : Fin 4 := ⟨t.1, lt_of_lt_of_eq t.2 N_0⟩

theorem iblk0_0 (t : Fin cfg0.N) : (iblk0 V c 0 t : Vec Ideal S512x512 .f32) = V c main_v0 := by
  obtain ⟨e0, e1⟩ := place0 t
  funext j
  refine congrArg (V c main_v0 : Vec Ideal S512x512 .f32) (funext fun a => Fin.ext ?_)
  match a with
  | ⟨0, _⟩ => show win0_0.index t (0 : Fin 2) * 512 + 1 * (j 0).val = (j 0).val; omega
  | ⟨1, _⟩ => show win0_0.index t (1 : Fin 2) * 512 + 1 * (j 1).val = (j 1).val; omega

theorem iblk0_1 (t : Fin cfg0.N) : (iblk0 V c 1 t : Vec Ideal S512x32 .f32) = V c main_arg1 := by
  obtain ⟨e0, e1⟩ := place1 t
  funext j
  refine congrArg (V c main_arg1 : Vec Ideal S512x32 .f32) (funext fun a => Fin.ext ?_)
  match a with
  | ⟨0, _⟩ => show win0_1.index t (0 : Fin 2) * 512 + 1 * (j 0).val = (j 0).val; omega
  | ⟨1, _⟩ => show win0_1.index t (1 : Fin 2) * 32 + 1 * (j 1).val = (j 1).val; omega

theorem iblk0_2 (t : Fin cfg0.N) : (iblk0 V c 2 t : Vec Ideal S512x32 .f32) = V c main_arg2 := by
  obtain ⟨e0, e1⟩ := place2 t
  funext j
  refine congrArg (V c main_arg2 : Vec Ideal S512x32 .f32) (funext fun a => Fin.ext ?_)
  match a with
  | ⟨0, _⟩ => show win0_2.index t (0 : Fin 2) * 512 + 1 * (j 0).val = (j 0).val; omega
  | ⟨1, _⟩ => show win0_2.index t (1 : Fin 2) * 32 + 1 * (j 1).val = (j 1).val; omega

/-- A column of the 128 of a pair of heads, among all. -/
abbrev wide (p : Fin 4) (n : Fin 128) : Fin 512 := ⟨p.1 * 128 + n.1, by omega⟩

theorem iblk0_3 (t : Fin cfg0.N) (e : Fin 512) (n : Fin 128) :
    (iblk0 V c 3 t : Vec Ideal S512x128 .f32) (ix2 e n) = (V c main_arg3 : Vec Ideal S512x512 .f32) (ix2 e (wide (pair t) n)) := by
  obtain ⟨e0, e1⟩ := place3 t
  refine congrArg (V c main_arg3 : Vec Ideal S512x512 .f32) (funext fun a => Fin.ext ?_)
  match a with
  | ⟨0, _⟩ => show win0_3.index t (0 : Fin 2) * 512 + 1 * e.val = e.val; omega
  | ⟨1, _⟩ => show win0_3.index t (1 : Fin 2) * 128 + 1 * n.val = t.val * 128 + n.val; omega

theorem iblk0_4 (t : Fin cfg0.N) (e : Fin 512) (n : Fin 128) :
    (iblk0 V c 4 t : Vec Ideal S512x128 .f32) (ix2 e n) = (V c main_arg4 : Vec Ideal S512x512 .f32) (ix2 e (wide (pair t) n)) := by
  obtain ⟨e0, e1⟩ := place4 t
  refine congrArg (V c main_arg4 : Vec Ideal S512x512 .f32) (funext fun a => Fin.ext ?_)
  match a with
  | ⟨0, _⟩ => show win0_4.index t (0 : Fin 2) * 512 + 1 * e.val = e.val; omega
  | ⟨1, _⟩ => show win0_4.index t (1 : Fin 2) * 128 + 1 * n.val = t.val * 128 + n.val; omega

theorem iblk0_5 (t : Fin cfg0.N) (e : Fin 512) (n : Fin 128) :
    (iblk0 V c 5 t : Vec Ideal S512x128 .f32) (ix2 e n) = (V c main_arg5 : Vec Ideal S512x512 .f32) (ix2 e (wide (pair t) n)) := by
  obtain ⟨e0, e1⟩ := place5 t
  refine congrArg (V c main_arg5 : Vec Ideal S512x512 .f32) (funext fun a => Fin.ext ?_)
  match a with
  | ⟨0, _⟩ => show win0_5.index t (0 : Fin 2) * 512 + 1 * e.val = e.val; omega
  | ⟨1, _⟩ => show win0_5.index t (1 : Fin 2) * 128 + 1 * n.val = t.val * 128 + n.val; omega

theorem emb6 (t : Fin cfg0.N) (r : Fin 512) (n : Fin 128) :
    (((cfg0.win 6).blk t).view.emb (ix2 r n : S512x128.Idx) : S512x512.Idx) = ix2 r (wide (pair t) n) := by
  obtain ⟨e0, e1⟩ := place6 t
  refine funext fun a => Fin.ext ?_
  match a with
  | ⟨0, _⟩ => show win0_6.index t (0 : Fin 2) * 512 + 1 * r.val = r.val; omega
  | ⟨1, _⟩ => show win0_6.index t (1 : Fin 2) * 128 + 1 * n.val = t.val * 128 + n.val; omega

/-- A matrix by its entries. -/
abbrev mat {n : ℕ} (a : Vec Ideal (⟨2, ![512, n]⟩ : Shape) .f32) (t : Fin 512) (e : Fin n) : EReal := a (ix2 t e)

theorem attn_eq (x : Fin 512 → Fin 512 → EReal) (c s : Fin 512 → Fin 32 → EReal) (wq wk wv : Fin 512 → Fin 512 → EReal) (t e : Fin 512) :
    attn x c s wq wk wv t e
      = attend 512 (masked (headRow x wq c s ⟨e.1 / 64, by omega⟩) (headRow x wk c s ⟨e.1 / 64, by omega⟩) t) (fun j => proj x wv j e) :=
  rfl

/-- The first region's result: the heads' attention side by side. -/
def G0 : Vec Ideal S512x512 .f32 := fun j =>
  attn (mat (V c main_v0)) (mat (V c main_arg1)) (mat (V c main_arg2)) (mat (V c main_arg3)) (mat (V c main_arg4)) (mat (V c main_arg5)) (j 0) (j 1)

theorem G0_apply (t e : Fin 512) : G0 V c (ix2 t e)
    = attn (mat (V c main_v0)) (mat (V c main_arg1)) (mat (V c main_arg2)) (mat (V c main_arg3)) (mat (V c main_arg4)) (mat (V c main_arg5)) t e :=
  rfl

theorem headCol (p : Fin 4) (s : Fin 2) (d d' : Fin 64) :
    (wide p (⟨s.1 * 64 + d'.1, by omega⟩ : Fin 128)) = (⟨(wide p (⟨s.1 * 64 + d.1, by omega⟩ : Fin 128)).1 / 64 * 64 + d'.1, by simp; omega⟩ : Fin 512) :=
  Fin.ext (by simp; omega)

theorem outsAt0_apply (t : Fin cfg0.N) (r : Fin 512) (n : Fin 128) : outsAt0 V c t (ix2 r n) = G0 V c (ix2 r (wide (pair t) n)) := by
  obtain ⟨b, r, rfl⟩ : ∃ (b : Fin 4) (r' : Fin 128), r = at4 b r' :=
    ⟨⟨r.1 / 128, by omega⟩, ⟨r.1 % 128, Nat.mod_lt _ (by norm_num)⟩, Fin.ext (by simp; omega)⟩
  obtain ⟨s, d, rfl⟩ : ∃ (s : Fin 2) (d : Fin 64), n = ⟨s.1 * 64 + d.1, by omega⟩ :=
    ⟨⟨n.1 / 64, by omega⟩, ⟨n.1 % 64, Nat.mod_lt _ (by norm_num)⟩, Fin.ext (by simp; omega)⟩
  rw [outsAt0, out_apply, iblk0_0, iblk0_1, iblk0_2, G0_apply, attn_eq]
  have row (w : Vec Ideal S512x128 .f32) (W : Vec Ideal S512x512 .f32) (h : ∀ e n, w (ix2 e n) = W (ix2 e (wide (pair t) n))) :
      blockRow (V c main_v0) (V c main_arg1) (V c main_arg2) w s
        = headRow (mat (V c main_v0)) (mat W) (mat (V c main_arg1)) (mat (V c main_arg2))
          ⟨(wide (pair t) (⟨s.1 * 64 + d.1, by omega⟩ : Fin 128)).1 / 64, by omega⟩ := by
    funext t' d'
    rw [blockRow, headRow]
    congr 2
    funext d''
    rw [blockProj, proj]
    exact Finset.sum_congr rfl fun e _ => by rw [h, headCol (pair t) s d d'']
  congr 1
  · exact congrArg₂ (fun q k => masked q k (at4 b r)) (row _ _ (iblk0_3 V c t)) (row _ _ (iblk0_4 V c t))
  · funext j
    rw [blockProj, proj]
    exact Finset.sum_congr rfl fun e _ => by rw [iblk0_5]

theorem flushed6 (t : Fin cfg0.N) : (dat0 V c).flushed 6 t = ((cfg0.win 6).blk t).view.read (Elt Ideal) (G0 V c) := by
  show (cfg0.win 6).cut (grid0.coords t) ((dat0 V c).after 6 t) = _
  rw [after0_6]
  funext j
  obtain ⟨r, n, rfl⟩ : ∃ (r : Fin 512) (n : Fin 128), j = (ix2 r n : S512x128.Idx) :=
    ⟨j 0, j 1, funext fun a => by match a with | ⟨0, _⟩ => rfl | ⟨1, _⟩ => rfl⟩
  show outsAt0 V c t (ix2 r n) = G0 V c (((cfg0.win 6).blk t).view.emb (ix2 r n : S512x128.Idx))
  rw [emb6]
  exact outsAt0_apply V c t r n

theorem covered6 (i : S512x512.Idx) : ∃ t : Fin cfg0.N, (cfg0.win 6).flush t = true ∧ i ∈ ((cfg0.win 6).blk t).view.set := by
  have h1 : (i 1).1 < 512 := (i 1).2
  obtain ⟨t, ht⟩ : ∃ t : Fin cfg0.N, t.1 = (i 1).1 / 128 := ⟨⟨(i 1).1 / 128, lt_of_lt_of_eq (by omega) N_0.symm⟩, rfl⟩
  refine ⟨t, flush0_6 _, ?_⟩
  have h := ((cfg0.win 6).blk t).view.emb_mem_set (ix2 (i 0) (⟨(i 1).1 % 128, Nat.mod_lt _ (by norm_num)⟩ : Fin 128) : S512x128.Idx)
  have e : (ix2 (i 0) (wide (pair t) (⟨(i 1).1 % 128, Nat.mod_lt _ (by norm_num)⟩ : Fin 128)) : S512x512.Idx) = i := by
    funext a
    match a with
    | ⟨0, _⟩ => rfl
    | ⟨1, _⟩ => exact Fin.ext (by show t.1 * 128 + (i 1).1 % 128 = (i 1).1; omega)
  exact ((emb6 t (i 0) _).trans e) ▸ h

/-- The first region leaves the heads' attention side by side. -/
theorem final0 : (dat0 V c).arrAt 6 cfg0.N = G0 V c :=
  (dat0 V c).arrAt_eq_of_cover 6 (G0 V c) (fun t _ => flushed6 V c t) (covered6)

theorem place7 : ∀ t : Fin cfg1.N, win1_0.index t (0 : Fin 2) = t.1 ∧ win1_0.index t (1 : Fin 2) = 0 := (by decide +kernel : ∀ t : Fin grid1.N, _)
theorem place8 : ∀ t : Fin cfg1.N, win1_1.index t (0 : Fin 3) = 0 ∧ win1_1.index t (1 : Fin 3) = 0 ∧ win1_1.index t (2 : Fin 3) = 0 :=
  (by decide +kernel : ∀ t : Fin grid1.N, _)
theorem place9 : ∀ t : Fin cfg1.N, win1_2.index t (0 : Fin 2) = t.1 ∧ win1_2.index t (1 : Fin 2) = 0 := (by decide +kernel : ∀ t : Fin grid1.N, _)

/-- A row of a half, among all. -/
abbrev tall (p : Fin 2) (r : Fin 256) : Fin 512 := ⟨p.1 * 256 + r.1, by omega⟩

/-- A point of the second region's grid as a number below two. -/
def half (t : Fin cfg1.N) : Fin 2 := ⟨t.1, lt_of_lt_of_eq t.2 N_1⟩

theorem iblk1_0 (t : Fin cfg1.N) (r : Fin 256) (e : Fin 512) :
    (iblk1 V c 0 t : Vec Ideal S256x512 .f32) (ix2 r e) = (V c main_v2 : Vec Ideal S512x512 .f32) (ix2 (tall (half t) r) e) := by
  obtain ⟨e0, e1⟩ := place7 t
  refine congrArg (V c main_v2 : Vec Ideal S512x512 .f32) (funext fun a => Fin.ext ?_)
  match a with
  | ⟨0, _⟩ => show win1_0.index t (0 : Fin 2) * 256 + 1 * r.val = t.val * 256 + r.val; omega
  | ⟨1, _⟩ => show win1_0.index t (1 : Fin 2) * 512 + 1 * e.val = e.val; omega

theorem iblk1_1 (t : Fin cfg1.N) : (iblk1 V c 1 t : Vec Ideal S4x128x512 .f32) = V c main_v1 := by
  obtain ⟨e0, e1, e2⟩ := place8 t
  funext j
  refine congrArg (V c main_v1 : Vec Ideal S4x128x512 .f32) (funext fun a => Fin.ext ?_)
  match a with
  | ⟨0, _⟩ => show win1_1.index t (0 : Fin 3) * 4 + 1 * (j 0).val = (j 0).val; omega
  | ⟨1, _⟩ => show win1_1.index t (1 : Fin 3) * 128 + 1 * (j 1).val = (j 1).val; omega
  | ⟨2, _⟩ => show win1_1.index t (2 : Fin 3) * 512 + 1 * (j 2).val = (j 2).val; omega

theorem emb9 (t : Fin cfg1.N) (r : Fin 256) (o : Fin 512) :
    (((cfg1.win 2).blk t).view.emb (ix2 r o : S256x512.Idx) : S512x512.Idx) = ix2 (tall (half t) r) o := by
  obtain ⟨e0, e1⟩ := place9 t
  refine funext fun a => Fin.ext ?_
  match a with
  | ⟨0, _⟩ => show win1_2.index t (0 : Fin 2) * 256 + 1 * r.val = t.val * 256 + r.val; omega
  | ⟨1, _⟩ => show win1_2.index t (1 : Fin 2) * 512 + 1 * o.val = o.val; omega

theorem pay_apply (v : Vec Ideal S256x512 .f32) (w0 w1 w2 w3 : Vec Ideal S1x128x512 .f32) (r : Fin 256) (o : Fin 512) :
    k1_pay1 v w0 w1 w2 w3 (ix2 r o)
      = (((∑ e : Fin 128, v (ix2 r (⟨e.1, by omega⟩ : Fin 512)) * w0 (ix3 0 e o))
          + ∑ e : Fin 128, v (ix2 r (⟨128 + e.1, by omega⟩ : Fin 512)) * w1 (ix3 0 e o))
          + ∑ e : Fin 128, v (ix2 r (⟨256 + e.1, by omega⟩ : Fin 512)) * w2 (ix3 0 e o))
          + ∑ e : Fin 128, v (ix2 r (⟨384 + e.1, by omega⟩ : Fin 512)) * w3 (ix3 0 e o) := by
  pointwise [k1_pay1]

/-- The output weight's rows, four groups of 128. -/
def grouped (w : Vec Ideal S4x128x512 .f32) (e o : Fin 512) : EReal :=
  w (ix3 (⟨e.1 / 128, by omega⟩ : Fin 4) (⟨e.1 % 128, Nat.mod_lt _ (by norm_num)⟩ : Fin 128) o)

/-- The second region's result. -/
def G1 : Vec Ideal S512x512 .f32 := fun j => proj (mat (V c main_v2)) (grouped (V c main_v1)) (j 0) (j 1)

theorem G1_apply (t o : Fin 512) : G1 V c (ix2 t o) = ∑ e : Fin 512, mat (V c main_v2) t e * grouped (V c main_v1) e o := rfl

theorem slabOf (w : Vec Ideal S4x128x512 .f32) (g : Fin 4) (inb : ∀ a, (![g.1, 0, 0] : Fin 3 → ℕ) a + S1x128x512.size a ≤ S4x128x512.size a)
    (e : Fin 128) (o : Fin 512) (k : Fin 512) (hk : k.1 = g.1 * 128 + e.1) :
    View.ld (Val := Elt Ideal) (e' := .f32) w (Rect.unit (s := S4x128x512) ![g.1, 0, 0] S1x128x512.size inb) (ix3 0 e o : S1x128x512.Idx) = grouped w k o := by
  refine congrArg w (funext fun a => Fin.ext ?_)
  match a with
  | ⟨0, _⟩ => show g.1 + 1 * 0 = k.1 / 128; omega
  | ⟨1, _⟩ => show 0 + 1 * e.1 = k.1 % 128; omega
  | ⟨2, _⟩ => show 0 + 1 * o.1 = o.1; omega

theorem out1_apply (x0 : Vec Ideal S256x512 .f32) (x1 : Vec Ideal S4x128x512 .f32) (r : Fin 256) (o : Fin 512) :
    out1_2 x0 x1 (ix2 r o) = ∑ e : Fin 512, x0 (ix2 r e) * grouped x1 e o := by
  rw [out1_2, View.canon_unit_zero (S := S256x512) (by decide), View.ld_unit_zero (S := S256x512) (by decide), pay_apply, sum_four]
  exact congrArg₂ (· + ·) (congrArg₂ (· + ·) (congrArg₂ (· + ·)
    (Finset.sum_congr rfl fun e _ => congrArg _ (slabOf x1 0 _ e o ⟨e.1, by omega⟩ (by simp)))
    (Finset.sum_congr rfl fun e _ => congrArg _ (slabOf x1 1 _ e o ⟨128 + e.1, by omega⟩ (by simp))))
    (Finset.sum_congr rfl fun e _ => congrArg _ (slabOf x1 2 _ e o ⟨256 + e.1, by omega⟩ (by simp))))
    (Finset.sum_congr rfl fun e _ => congrArg _ (slabOf x1 3 _ e o ⟨384 + e.1, by omega⟩ (by simp)))

theorem flushed9 (t : Fin cfg1.N) : (dat1 V c).flushed 2 t = ((cfg1.win 2).blk t).view.read (Elt Ideal) (G1 V c) := by
  show (cfg1.win 2).cut (grid1.coords t) ((dat1 V c).after 2 t) = _
  rw [after1_2]
  funext j
  obtain ⟨r, o, rfl⟩ : ∃ (r : Fin 256) (o : Fin 512), j = (ix2 r o : S256x512.Idx) :=
    ⟨j 0, j 1, funext fun a => by match a with | ⟨0, _⟩ => rfl | ⟨1, _⟩ => rfl⟩
  show out1_2 (iblk1 V c 0 t) (iblk1 V c 1 t) (ix2 r o) = G1 V c (((cfg1.win 2).blk t).view.emb (ix2 r o : S256x512.Idx))
  rw [emb9, out1_apply, iblk1_1, G1_apply]
  exact Finset.sum_congr rfl fun e _ => by rw [iblk1_0]

theorem covered9 (i : S512x512.Idx) : ∃ t : Fin cfg1.N, (cfg1.win 2).flush t = true ∧ i ∈ ((cfg1.win 2).blk t).view.set := by
  have h0 : (i 0).1 < 512 := (i 0).2
  obtain ⟨t, ht⟩ : ∃ t : Fin cfg1.N, t.1 = (i 0).1 / 256 := ⟨⟨(i 0).1 / 256, lt_of_lt_of_eq (by omega) N_1.symm⟩, rfl⟩
  refine ⟨t, flush1_2 _, ?_⟩
  have h := ((cfg1.win 2).blk t).view.emb_mem_set (ix2 (⟨(i 0).1 % 256, Nat.mod_lt _ (by norm_num)⟩ : Fin 256) (i 1) : S256x512.Idx)
  have e : (ix2 (tall (half t) (⟨(i 0).1 % 256, Nat.mod_lt _ (by norm_num)⟩ : Fin 256)) (i 1) : S512x512.Idx) = i := by
    funext a
    match a with
    | ⟨0, _⟩ => exact Fin.ext (by show t.1 * 256 + (i 0).1 % 256 = (i 0).1; omega)
    | ⟨1, _⟩ => rfl
  exact ((emb9 t _ (i 1)).trans e) ▸ h

/-- The second region leaves the product with the output weight. -/
theorem final1 : (dat1 V c).arrAt 2 cfg1.N = G1 V c :=
  (dat1 V c).arrAt_eq_of_cover 2 (G1 V c) (fun t _ => flushed9 V c t) (covered9)

end Arrays

section Run

variable (m : (ℓ : Loc nD τ sig) → Buf (Elt Ideal) ℓ) (ρ : Dev nD → PrngReg) (c : Dev nD)

theorem W1_v0 : (W1 m ρ c (Proc.devRef .tc main_v0) : Vec Ideal S512x512 .f32)
    = shapeCast S512x512 (m ((c : Thread nD τ).loc main_arg0) : Vec Ideal S1x512x512 .f32) shapeCasts_S1x512x512_S512x512 := (rfl)

theorem W1_v1 : (W1 m ρ c (Proc.devRef .tc main_v1) : Vec Ideal S4x128x512 .f32)
    = shapeCast S4x128x512 (m ((c : Thread nD τ).loc main_arg6) : Vec Ideal S512x512 .f32) shapeCasts_S512x512_S4x128x512 := (rfl)

theorem W4_v4 : (W4 m ρ c (Proc.devRef .tc main_v4) : Vec Ideal S1x512x512 .f32)
    = shapeCast S1x512x512 (W3 m ρ c (Proc.devRef .tc main_v3) : Vec Ideal S512x512 .f32) shapeCasts_S512x512_S1x512x512 := (rfl)

theorem cast_in (x : Vec Ideal S1x512x512 .f32) (t e : Fin 512) : shapeCast S512x512 x shapeCasts_S1x512x512_S512x512 (ix2 t e) = x (ix3 0 t e) := by
  pointwise

theorem cast_out (x : Vec Ideal S512x512 .f32) (t o : Fin 512) : shapeCast S1x512x512 x shapeCasts_S512x512_S1x512x512 (ix3 0 t o) = x (ix2 t o) := by
  pointwise

theorem cast_rows (w : Vec Ideal S512x512 .f32) (e o : Fin 512) :
    grouped (shapeCast S4x128x512 w shapeCasts_S512x512_S4x128x512) e o = w (ix2 e o) := by
  unfold grouped
  pointwise

/-- An argument array after the opening reshapes. -/
theorem V1_arg (r : Ref sig .tc) (h : r ∉ hostOps0_W) : V1 m ρ c r = m ((c : Thread nD τ).loc r) := W1_of m ρ c r h

theorem V2_v2 : V2 m ρ c main_v2 = G0 (V1 m ρ) c := (W2_arr m ρ c 6).trans (final0 (V1 m ρ) c)

theorem V2_v1 : V2 m ρ c main_v1 = V1 m ρ c main_v1 := W2_of m ρ c main_v1 (by decide)

theorem W3_v3 : W3 m ρ c (Proc.devRef .tc main_v3) = G1 (V2 m ρ) c := (W3_arr m ρ c 2).trans (final1 (V2 m ρ) c)

/-- The kernel's result at an index, of its arguments. -/
theorem W4_apply (t o : Fin 512) : (W4 m ρ c (Proc.devRef .tc main_v4) : Vec Ideal S1x512x512 .f32) (ix3 0 t o)
    = proj (attn (fun t e => (m ((c : Thread nD τ).loc main_arg0) : Vec Ideal S1x512x512 .f32) (ix3 0 t e))
        (mat (m ((c : Thread nD τ).loc main_arg1))) (mat (m ((c : Thread nD τ).loc main_arg2))) (mat (m ((c : Thread nD τ).loc main_arg3)))
        (mat (m ((c : Thread nD τ).loc main_arg4))) (mat (m ((c : Thread nD τ).loc main_arg5))))
      (mat (m ((c : Thread nD τ).loc main_arg6))) t o := by
  rw [W4_v4, cast_out, W3_v3]
  refine (G1_apply (V2 m ρ) c t o).trans (Finset.sum_congr rfl fun e _ => ?_)
  rw [V2_v2, V2_v1, show V1 m ρ c main_v1 = _ from W1_v1 m ρ c, cast_rows]
  refine congrArg (· * _) ((G0_apply (V1 m ρ) c t e).trans ?_)
  rw [show V1 m ρ c main_v0 = _ from W1_v0 m ρ c, V1_arg m ρ c main_arg1 (by decide), V1_arg m ρ c main_arg2 (by decide),
    V1_arg m ρ c main_arg3 (by decide), V1_arg m ρ c main_arg4 (by decide), V1_arg m ρ c main_arg5 (by decide)]
  refine congrArg (fun x => attn x _ _ _ _ _ t e) (funext fun t => funext fun e => ?_)
  exact cast_in _ t e

end Run

end Cert.KernelIdeal.Gen

end
-- ==== Proof.KernelRun.lean ====
/- The kernel's run: every buffer a program outside the regions can see ends at the fold's last contents, the result among
   them. -/
module

public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_fold : θ_run defs (onTc (τ := τ) (main (F := F))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      · iapply (show (BI.emp : sProp 𝕄) ⊢ bigSep Finset.univ (fun _ : Dev nD => (BI.emp : sProp 𝕄)) from by rw [BI.bigSep_emp_const])
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]
        · iexact Hh
        · iexact Hp
      · iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      · isplitl [Hp]
        · iexists _; iexact Hp
        · iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

end Cert.KernelIdeal.Gen

end
-- ==== Proof.RefValue.lean ====
/- The reference's composed term, one operation group at a time, and each group read at an index: the reference's result is
   the attention of `Spec` followed by the output projection. -/
module

public import proofs.«01_k».proof.Proof.Gen.ReferenceIdeal.Run
public import proofs.«01_k».proof.Proof.Spec
public import Idealize.ShloMosaic.Lib.Pointwise
public import Idealize.ShloMosaic.Lib.WordCmp

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Tropical

/-- A projection of the input, its columns split into heads. -/
def heads (x : FVec Ideal S1x512x512 .f32) (w : FVec Ideal S512x512 .f32) : FVec Ideal S1x512x8x64 .f32 :=
  shapeCast _ (Host.dotGeneral dot_S1x512x512_S512x512_S1x512x512_2_0_01_1_n_n none x w) shapeCasts_S1x512x512_S1x512x8x64

/-- An angle table laid along the heads. -/
def table (a : FVec Ideal S512x32 .f32) : FVec Ideal S1x512x8x32 .f32 :=
  broadcastInDim S1x512x8x32 ![0, 1, 2, 3] bcast_S1x512x1x32_S1x512x8x32_0_1_2_3 (broadcastInDim S1x512x1x32 ![1, 3] bcast_S512x32_S1x512x1x32_1_3 a)

def lowHalf (p : FVec Ideal S1x512x8x64 .f32) : FVec Ideal S1x512x8x32 .f32 :=
  extractStridedSlice S1x512x8x32 ![0, 0, 0, 0] p slices_S1x512x8x64_S1x512x8x32_0_0_0_0

def highHalf (p : FVec Ideal S1x512x8x64 .f32) : FVec Ideal S1x512x8x32 .f32 :=
  extractStridedSlice S1x512x8x32 ![0, 0, 0, 32] p slices_S1x512x8x64_S1x512x8x32_0_0_0_32

def turned (p : FVec Ideal S1x512x8x64 .f32) (c s : FVec Ideal S512x32 .f32) : FVec Ideal S1x512x8x64 .f32 :=
  concatenate S1x512x8x64 3
    [⟨S1x512x8x32, addf (mulf (lowHalf p) (table c)) (mulf (highHalf p) (table s))⟩,
     ⟨S1x512x8x32, addf (mulf (Host.negf (lowHalf p)) (table s)) (mulf (highHalf p) (table c))⟩]
    concatenates_S1x512x8x32_S1x512x8x32_S1x512x8x64_d3

def normed (r : FVec Ideal S1x512x8x64 .f32) : FVec Ideal S1x512x8x64 .f32 :=
  mulf r (broadcastInDim S1x512x8x64 ![0, 1, 2, 3] bcast_S1x512x8x1_S1x512x8x64_0_1_2_3
    (Host.rsqrt (addf (Host.divf (broadcastInDim S1x512x8x1 ![0, 1, 2] bcast_S1x512x8_S1x512x8x1_0_1_2
      (Host.reduceAdd (mulf r r) (constant S_ .f32 0x00000000#32) reducesTo_S1x512x8x64_S1x512x8_d3 h_S_))
      (broadcastInDim S1x512x8x1 ![] bcast_S_S1x512x8x1 (constant S_ .f32 0x42800000#32)))
      (broadcastInDim S1x512x8x1 ![] bcast_S_S1x512x8x1 (constant S_ .f32 0x358637BD#32)))))

def headFirst (r : FVec Ideal S1x512x8x64 .f32) : FVec Ideal S1x8x512x64 .f32 :=
  transpose S1x8x512x64 [0, 2, 1, 3] r transposes_S1x512x8x64_S1x8x512x64_0_2_1_3

def scores (q k : FVec Ideal S1x8x512x64 .f32) : FVec Ideal S1x8x512x512 .f32 :=
  Host.reduce FloatOps.maximumf (addf
    (broadcastInDim S1x8x512x512x64 ![0, 1, 2, 3, 4] bcast_S1x8x512x1x64_S1x8x512x512x64_0_1_2_3_4
      (broadcastInDim S1x8x512x1x64 ![0, 1, 2, 4] bcast_S1x8x512x64_S1x8x512x1x64_0_1_2_4 q))
    (broadcastInDim S1x8x512x512x64 ![0, 1, 2, 3, 4] bcast_S1x8x1x512x64_S1x8x512x512x64_0_1_2_3_4
      (broadcastInDim S1x8x1x512x64 ![0, 1, 3, 4] bcast_S1x8x512x64_S1x8x1x512x64_0_1_3_4 k)))
    (constant S_ .f32 0xFF800000#32) reducesTo_S1x8x512x512x64_S1x8x512x512_d4 h_S_

def causal : IVec S512x512 1 :=
  select (cmpi .sge (addi (iotaInDim S512x512 32 0) (broadcastInDim S512x512 ![] bcast_S_S512x512 (constantI S_ 32 0#32))) (iotaInDim S512x512 32 1))
    (broadcastInDim S512x512 ![] bcast_S_S512x512 (constantI S_ 1 1#1)) (broadcastInDim S512x512 ![] bcast_S_S512x512 (constantI S_ 1 0#1))

def maskedScores (s : FVec Ideal S1x8x512x512 .f32) : FVec Ideal S1x8x512x512 .f32 :=
  select (broadcastInDim S1x8x512x512 ![0, 1, 2, 3] bcast_S1x1x512x512_S1x8x512x512_0_1_2_3
      (broadcastInDim S1x1x512x512 ![2, 3] bcast_S512x512_S1x1x512x512_2_3 causal)) s
    (broadcastInDim S1x8x512x512 ![] bcast_S_S1x8x512x512 (id (constant S_ .f32 0xFF800000#32)))

def top (s : FVec Ideal S1x8x512x512 .f32) : FVec Ideal S1x8x512 .f32 :=
  Host.reduce FloatOps.maximumf s (constant S_ .f32 0xFF800000#32) reducesTo_S1x8x512x512_S1x8x512_d3 h_S_

def floored (m : FVec Ideal S1x8x512 .f32) : FVec Ideal S1x8x512 .f32 :=
  maximumf (broadcastInDim S1x8x512 ![] bcast_S_S1x8x512 (constant S_ .f32 0xFF800000#32)) m

def lessTop (s : FVec Ideal S1x8x512x512 .f32) (m : FVec Ideal S1x8x512 .f32) : FVec Ideal S1x8x512x512 .f32 :=
  Host.exp (subf s (broadcastInDim S1x8x512x512 ![0, 1, 2, 3] bcast_S1x8x512x1_S1x8x512x512_0_1_2_3
    (broadcastInDim S1x8x512x1 ![0, 1, 2] bcast_S1x8x512_S1x8x512x1_0_1_2 m)))

def expd (s : FVec Ideal S1x8x512x512 .f32) : FVec Ideal S1x8x512x512 .f32 := lessTop s (floored (top s))

def weights (s : FVec Ideal S1x8x512x512 .f32) : FVec Ideal S1x8x512x512 .f32 :=
  Host.divf (expd s) (broadcastInDim S1x8x512x512 ![0, 1, 2, 3] bcast_S1x8x512x1_S1x8x512x512_0_1_2_3
    (broadcastInDim S1x8x512x1 ![0, 1, 2] bcast_S1x8x512_S1x8x512x1_0_1_2
      (Host.reduceAdd (expd s) (constant S_ .f32 0x00000000#32) reducesTo_S1x8x512x512_S1x8x512_d3 h_S_)))

def mixed (w : FVec Ideal S1x8x512x512 .f32) (v : FVec Ideal S1x8x512x64 .f32) : FVec Ideal S1x8x512x64 .f32 :=
  Host.dotGeneral dot_S1x8x512x512_S1x8x512x64_S1x8x512x64_3_2_2_3_01_01 none w v

def joined (y : FVec Ideal S1x8x512x64 .f32) : FVec Ideal S1x512x512 .f32 :=
  shapeCast _ (transpose S1x512x8x64 [0, 2, 1, 3] y transposes_S1x8x512x64_S1x512x8x64_0_2_1_3) shapeCasts_S1x512x8x64_S1x512x512

def out (y : FVec Ideal S1x512x512 .f32) (w : FVec Ideal S512x512 .f32) : FVec Ideal S1x512x512 .f32 :=
  Host.dotGeneral dot_S1x512x512_S512x512_S1x512x512_2_0_01_1_n_n none y w

def whole (x : FVec Ideal S1x512x512 .f32) (c s : FVec Ideal S512x32 .f32) (wq wk wv wo : FVec Ideal S512x512 .f32) :
    FVec Ideal S1x512x512 .f32 :=
  out (joined (mixed (weights (maskedScores (scores (headFirst (normed (turned (heads x wq) c s))) (headFirst (normed (turned (heads x wk) c s))))))
    (headFirst (heads x wv)))) wo

theorem causal_bit (t j : Fin 512) :
    Scalar.select (IntOp.cmpi CmpIPredicate.sge (IntOp.addi (BitVec.ofNat 32 t.1) 0#32) (BitVec.ofNat 32 j.1)) 1#1 0#1
      = if j.1 ≤ t.1 then 1#1 else 0#1 := by
  rw [show IntOp.addi (BitVec.ofNat 32 t.1) 0#32 = BitVec.ofNat 32 t.1 from BitVec.add_zero _,
    WordCmp.cmpi_sge_ofNat (by omega) (by omega)]
  by_cases h : j.1 ≤ t.1 <;> simp [h, Scalar.select]

theorem heads_apply (x : FVec Ideal S1x512x512 .f32) (w : FVec Ideal S512x512 .f32) (t : Fin 512) (h : Fin 8) (d : Fin 64) :
    heads x w (ix4 0 t h d) = ∑ e : Fin 512, x (ix3 0 t e) * w (ix2 e ⟨h.1 * 64 + d.1, by omega⟩) := by
  pointwise [heads]

theorem turned_apply (p : FVec Ideal S1x512x8x64 .f32) (c s : FVec Ideal S512x32 .f32) (t : Fin 512) (h : Fin 8) (d : Fin 64) :
    turned p c s (ix4 0 t h d) = rot (fun d => p (ix4 0 t h d)) (fun d => c (ix2 t d)) (fun d => s (ix2 t d)) d := by
  pointwise [turned, lowHalf, highHalf, table]
  unfold rot
  split
  · simp only [Nat.add_comm 32 d.1]
  · rename_i hd
    have h32 : 32 + (d.1 - 32) = d.1 := by omega
    rw [EReal.neg_mul, add_comm, ← sub_eq_add_neg]
    simp only [h32, Fin.eta]

theorem normed_apply (r : FVec Ideal S1x512x8x64 .f32) (t : Fin 512) (h : Fin 8) (d : Fin 64) :
    normed r (ix4 0 t h d) = nrm (fun d => r (ix4 0 t h d)) d := by
  pointwise [normed]
  rw [nrm, len, eps]

theorem headFirst_apply (r : FVec Ideal S1x512x8x64 .f32) (t : Fin 512) (h : Fin 8) (d : Fin 64) :
    headFirst r (ix4 0 h t d) = r (ix4 0 t h d) := by
  pointwise [headFirst]

theorem scores_apply (q k : FVec Ideal S1x8x512x64 .f32) (t j : Fin 512) (h : Fin 8) :
    scores q k (ix4 0 h t j) = score (fun d => q (ix4 0 h t d)) (fun d => k (ix4 0 h j d)) := by
  pointwise [scores]
  rw [fold_max, score]

theorem maskedScores_apply (s : FVec Ideal S1x8x512x512 .f32) (t j : Fin 512) (h : Fin 8) :
    maskedScores s (ix4 0 h t j) = if j.1 ≤ t.1 then s (ix4 0 h t j) else ⊥ := by
  pointwise [maskedScores, causal]
  rw [causal_bit, show id (constant (F := Ideal) S_ .f32 0xFF800000#32) ix0 = ⊥ from negInf_eq]
  by_cases h : j.1 ≤ t.1 <;> simp [h, Scalar.select]

theorem top_apply (s : FVec Ideal S1x8x512x512 .f32) (t : Fin 512) (h : Fin 8) :
    top s (ix3 0 h t) = Finset.univ.sup fun j => s (ix4 0 h t j) := by
  pointwise [top]
  rw [fold_max]

theorem floored_apply (m : FVec Ideal S1x8x512 .f32) (t : Fin 512) (h : Fin 8) : floored m (ix3 0 h t) = m (ix3 0 h t) := by
  pointwise [floored]
  rw [negInf_eq, max_eq_right bot_le]

theorem lessTop_apply (s : FVec Ideal S1x8x512x512 .f32) (m : FVec Ideal S1x8x512 .f32) (t j : Fin 512) (h : Fin 8) :
    lessTop s m (ix4 0 h t j) = Ideal.exp (s (ix4 0 h t j) - m (ix3 0 h t)) := by
  pointwise [lessTop]

theorem expd_apply (s : FVec Ideal S1x8x512x512 .f32) (t j : Fin 512) (h : Fin 8) :
    expd s (ix4 0 h t j) = Ideal.exp (s (ix4 0 h t j) - Finset.univ.sup fun j => s (ix4 0 h t j)) := by
  rw [expd, lessTop_apply, floored_apply, top_apply]

theorem weights_apply (s : FVec Ideal S1x8x512x512 .f32) (t j : Fin 512) (h : Fin 8) :
    weights s (ix4 0 h t j) = Ideal.div (Ideal.exp (s (ix4 0 h t j) - Finset.univ.sup fun j => s (ix4 0 h t j)))
      (∑ j', Ideal.exp (s (ix4 0 h t j') - Finset.univ.sup fun j => s (ix4 0 h t j))) := by
  pointwise [weights]
  simp only [expd_apply]

theorem mixed_apply (w : FVec Ideal S1x8x512x512 .f32) (v : FVec Ideal S1x8x512x64 .f32) (t : Fin 512) (h : Fin 8) (d : Fin 64) :
    mixed w v (ix4 0 h t d) = ∑ j : Fin 512, w (ix4 0 h t j) * v (ix4 0 h j d) := by
  pointwise [mixed]

theorem joined_apply (y : FVec Ideal S1x8x512x64 .f32) (t e : Fin 512) :
    joined y (ix3 0 t e) = y (ix4 0 ⟨e.1 / 64, by omega⟩ t ⟨e.1 % 64, Nat.mod_lt _ (by norm_num)⟩) := by
  pointwise [joined]

theorem out_apply (y : FVec Ideal S1x512x512 .f32) (w : FVec Ideal S512x512 .f32) (t o : Fin 512) :
    out y w (ix3 0 t o) = ∑ e : Fin 512, y (ix3 0 t e) * w (ix2 e o) := by
  pointwise [out]

/-- The reference's result at a row and a column. -/
theorem whole_apply (x : FVec Ideal S1x512x512 .f32) (c s : FVec Ideal S512x32 .f32) (wq wk wv wo : FVec Ideal S512x512 .f32) (t o : Fin 512) :
    whole x c s wq wk wv wo (ix3 0 t o)
      = proj (attn (fun t e => x (ix3 0 t e)) (fun t d => c (ix2 t d)) (fun t d => s (ix2 t d)) (fun i e => wq (ix2 i e)) (fun i e => wk (ix2 i e))
          fun i e => wv (ix2 i e)) (fun e o => wo (ix2 e o)) t o := by
  rw [whole, out_apply, proj]
  refine Finset.sum_congr rfl fun e _ => ?_
  rw [joined_apply, mixed_apply, attn, attend]
  simp only [weights_apply, maskedScores_apply, scores_apply, headFirst_apply, normed_apply, turned_apply, heads_apply]
  have he : (⟨e.1 / 64 * 64 + e.1 % 64, by omega⟩ : Fin 512) = e := Fin.ext (Nat.div_add_mod' e.1 64)
  simp only [he]
  rfl

/-- The reference's run leaves it. -/
theorem res_eq_whole (m : (ℓ : Loc nD τ sig) → Buf (Elt Ideal) ℓ) (c : Dev nD) :
    res_out0 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.KernelRun
public import proofs.«01_k».proof.Proof.RefValue
public import Idealize.ShloMosaic.Adequacy
public import Idealize.ShloMosaic.Init

@[expose] public section

noncomputable section

namespace Cert.Proof

open Idealize.ShloMosaic Idealize.SL.Sem Cert.Tropical

/-- The kernel's result is the reference's formula of the same arguments. -/
theorem result_eq (m : (ℓ : Loc Cert.KernelIdeal.nD Cert.KernelIdeal.τ Cert.KernelIdeal.sig) → Buf (Elt Ideal) ℓ)
    (g : Dev Cert.KernelIdeal.nD → PrngReg) (c : Dev Cert.KernelIdeal.nD) :
    (Cert.KernelIdeal.Gen.W4 m g c (Proc.devRef .tc Cert.KernelIdeal.main_v4) : FVec Ideal Cert.ReferenceIdeal.S1x512x512 .f32)
      = Cert.ReferenceIdeal.Value.whole
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  funext j
  obtain ⟨u, t, o, rfl⟩ : ∃ (u : Fin 1) (t o : Fin 512), j = (ix3 u t o : Cert.ReferenceIdeal.S1x512x512.Idx) :=
    ⟨j 0, j 1, j 2, funext fun a => by match a with | ⟨0, _⟩ => rfl | ⟨1, _⟩ => rfl | ⟨2, _⟩ => rfl⟩
  obtain rfl := Subsingleton.elim u 0
  exact (Cert.KernelIdeal.Gen.W4_apply m g c t o).trans (Cert.ReferenceIdeal.Value.whole_apply _ _ _ _ _ _ _ t o).symm

open Cert.KernelIdeal.Gen in
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => W4 m g c (Proc.devRef .tc Cert.KernelIdeal.main_v4), ?_, ?_⟩
  · refine (θ_run Cert.KernelIdeal.defs _ _).mono (fun r h c => ?_) (run_fold m g)
    exact ⟨h c _ (mem_uc Cert.KernelIdeal.main_v4 (by decide)),
      (h c _ (mem_uc Cert.KernelIdeal.main_arg0 (by decide))).trans (W4_main_arg0 m g c),
      (h c _ (mem_uc Cert.KernelIdeal.main_arg1 (by decide))).trans (W4_main_arg1 m g c),
      (h c _ (mem_uc Cert.KernelIdeal.main_arg2 (by decide))).trans (W4_main_arg2 m g c),
      (h c _ (mem_uc Cert.KernelIdeal.main_arg3 (by decide))).trans (W4_main_arg3 m g c),
      (h c _ (mem_uc Cert.KernelIdeal.main_arg4 (by decide))).trans (W4_main_arg4 m g c),
      (h c _ (mem_uc Cert.KernelIdeal.main_arg5 (by decide))).trans (W4_main_arg5 m g c),
      (h c _ (mem_uc Cert.KernelIdeal.main_arg6 (by decide))).trans (W4_main_arg6 m g c)⟩
  · refine (θ_run Cert.ReferenceIdeal.defs _ _).mono (fun r h c => ⟨(h c).1.trans ?_, (h c).2⟩) (Cert.ReferenceIdeal.Value.run m' g')
    obtain ⟨h0, h1, h2, h3, h4, h5, h6⟩ := hargs c
    refine (Cert.ReferenceIdeal.Value.res_eq_whole m' c).trans ?_
    rw [h0, h1, h2, h3, h4, h5, h6]
    exact (result_eq m g c).symm

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => (θ_run Cert.ReferenceIdeal.defs _ _).mono
      (fun r h => ⟨fun c => (h c).2, Idealize.ShloMosaic.sem_eq_zero_of_no_sems (by decide) r.2⟩) (Cert.ReferenceIdeal.Value.run m ρ),
    IdealRules.named_const.statement Cert.KernelIdeal.κ "mask" .f32 0xF149F2CA#32 ⊥ rfl,
    algebraic⟩

end Cert.Proof

end
